-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite [hPre_finite : Cert.Pre_finite.Facts] (m : (ℓ : Loc Cert.SwaIdeal.nD Cert.SwaIdeal.τ Cert.SwaIdeal.sig) → Buf (Elt Ideal) ℓ) : Prop :=
  ∀ c : Dev Cert.SwaIdeal.nD,
    (Cert.Pre_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite [hPre_finite : Cert.Pre_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaIdeal_pre_finite [hSwaIdeal : Cert.SwaIdeal.Facts] [hPre_finite : Cert.Pre_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_SwaRefIdeal_pre_finite [hSwaRefIdeal : Cert.SwaRefIdeal.Facts] [hPre_finite : Cert.Pre_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10)
      ∧ r.2.mem ((c.tc : Thread Cert.Out.nD Cert.Out.τ).loc Cert.Out.main_arg11) = m ((c.tc : Thread Cert.Out.nD Cert.Out.τ).loc Cert.Out.main_arg11)
      ∧ r.2.mem ((c.tc : Thread Cert.Out.nD Cert.Out.τ).loc Cert.Out.main_arg12) = m ((c.tc : Thread Cert.Out.nD Cert.Out.τ).loc Cert.Out.main_arg12))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11)
      ∧ r.2.mem ((c.tc : Thread Cert.OutRefIdeal.nD Cert.OutRefIdeal.τ).loc Cert.OutRefIdeal.main_arg12) = m ((c.tc : Thread Cert.OutRefIdeal.nD Cert.OutRefIdeal.τ).loc Cert.OutRefIdeal.main_arg12))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def preserves_Swa_SwaIdeal : Prop :=
  IdealRules.named_const.Statement Cert.SwaIdeal.κ "mask" .f32 0xF149F2CA#32 ⊥

def algebraic_SwaIdeal_SwaRefIdeal_pre_finite [hSwaIdeal : Cert.SwaIdeal.Facts] [hSwaRefIdeal : Cert.SwaRefIdeal.Facts] [hPre_finite : Cert.Pre_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)) →
    ∃ (v0 : (c : Dev Cert.SwaIdeal.nD) → Buf (Elt Ideal) ((c.tc : Thread Cert.SwaIdeal.nD Cert.SwaIdeal.τ).loc Cert.SwaIdeal.main_v43)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v43) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v262) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v46) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v46) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v115) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)
      ∧ m' ((c.tc : Thread Cert.OutRefIdeal.nD Cert.OutRefIdeal.τ).loc Cert.OutRefIdeal.main_arg11) = m ((c.tc : Thread Cert.OutIdeal.nD Cert.OutIdeal.τ).loc Cert.OutIdeal.main_arg11)
      ∧ m' ((c.tc : Thread Cert.OutRefIdeal.nD Cert.OutRefIdeal.τ).loc Cert.OutRefIdeal.main_arg12) = m ((c.tc : Thread Cert.OutIdeal.nD Cert.OutIdeal.τ).loc Cert.OutIdeal.main_arg12)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
          ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
          ∧ r.2.mem ((c.tc : Thread Cert.OutIdeal.nD Cert.OutIdeal.τ).loc Cert.OutIdeal.main_arg12) = m ((c.tc : Thread Cert.OutIdeal.nD Cert.OutIdeal.τ).loc Cert.OutIdeal.main_arg12))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v58) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10)
          ∧ r.2.mem ((c.tc : Thread Cert.OutRefIdeal.nD Cert.OutRefIdeal.τ).loc Cert.OutRefIdeal.main_arg11) = m' ((c.tc : Thread Cert.OutRefIdeal.nD Cert.OutRefIdeal.τ).loc Cert.OutRefIdeal.main_arg11)
          ∧ r.2.mem ((c.tc : Thread Cert.OutRefIdeal.nD Cert.OutRefIdeal.τ).loc Cert.OutRefIdeal.main_arg12) = m' ((c.tc : Thread Cert.OutRefIdeal.nD Cert.OutRefIdeal.τ).loc Cert.OutRefIdeal.main_arg12))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v37) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def Claim : Prop :=
  ∃ (hSwa : Cert.Swa.Facts) (hSwaIdeal : Cert.SwaIdeal.Facts) (hSwaRefIdeal : Cert.SwaRefIdeal.Facts) (hUp : Cert.Up.Facts) (hUpIdeal : Cert.UpIdeal.Facts) (hUpRefIdeal : Cert.UpRefIdeal.Facts) (hIn : Cert.In.Facts) (hInIdeal : Cert.InIdeal.Facts) (hInRefIdeal : Cert.InRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hMod : Cert.Mod.Facts) (hModIdeal : Cert.ModIdeal.Facts) (hModRefIdeal : Cert.ModRefIdeal.Facts) (hPre_finite : Cert.Pre_finite.Facts),
    quiescent_Swa (hSwa := hSwa)
    ∧ quiescent_SwaIdeal (hSwaIdeal := hSwaIdeal)
    ∧ quiescent_SwaIdeal_pre_finite (hSwaIdeal := hSwaIdeal) (hPre_finite := hPre_finite)
    ∧ quiescent_SwaRefIdeal (hSwaRefIdeal := hSwaRefIdeal)
    ∧ quiescent_SwaRefIdeal_pre_finite (hSwaRefIdeal := hSwaRefIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_In (hIn := hIn)
    ∧ quiescent_InIdeal (hInIdeal := hInIdeal)
    ∧ quiescent_InRefIdeal (hInRefIdeal := hInRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Mod (hMod := hMod)
    ∧ quiescent_ModIdeal (hModIdeal := hModIdeal)
    ∧ quiescent_ModRefIdeal (hModRefIdeal := hModRefIdeal)
    ∧ preserves_Swa_SwaIdeal
    ∧ algebraic_SwaIdeal_SwaRefIdeal_pre_finite (hSwaIdeal := hSwaIdeal) (hSwaRefIdeal := hSwaRefIdeal) (hPre_finite := hPre_finite)
    ∧ preserves_Up_UpIdeal
    ∧ algebraic_UpIdeal_UpRefIdeal (hUpIdeal := hUpIdeal) (hUpRefIdeal := hUpRefIdeal)
    ∧ preserves_In_InIdeal
    ∧ algebraic_InIdeal_InRefIdeal (hInIdeal := hInIdeal) (hInRefIdeal := hInRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Mod_ModIdeal
    ∧ algebraic_ModIdeal_ModRefIdeal (hModIdeal := hModIdeal) (hModRefIdeal := hModRefIdeal)
-- ==== Pre_finite.lean ====
abbrev S16x2304x2688 : Shape := ⟨3, ![16, 2304, 2688]⟩
abbrev S4 : Shape := ⟨1, ![4]⟩
abbrev S_ : Shape := ⟨0, ![]⟩

class Facts : Prop where
  bitsLt_bf16_f32 : FTy.bits .bf16 < FTy.bits .f32
  bcast_S_S16x2304x2688 : S_.BroadcastsInDim S16x2304x2688 (![] : Fin 0 → Fin S16x2304x2688.rank)
  reducesTo_S16x2304x2688_S_d0_1_2 : S16x2304x2688.ReducesTo [0, 1, 2] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S16x2304x2688 .bf16) (main_arg1 : FVec F S4 .f32) : IVec S_ 1 :=
  let main_v0 : FVec F S16x2304x2688 .f32 := (extf .f32 · bitsLt_bf16_f32) main_arg0
  let main_v1 : FVec F S16x2304x2688 .f32 := Host.absf main_v0
  let main_cst : FVec F S_ .f32 := constant S_ .f32 0x7F800000#32
  let main_v2 : FVec F S16x2304x2688 .f32 := broadcastInDim S16x2304x2688 ![] bcast_S_S16x2304x2688 main_cst
  let main_v3 : IVec S16x2304x2688 1 := cmpf .olt main_v1 main_v2
  let main_c : IVec S_ 1 := constantI S_ 1 1#1
  let main_v4 : IVec S_ 1 := (fun x v => Host.reduce IntOp.andi x v reducesTo_S16x2304x2688_S_d0_1_2 h_S_) main_v3 main_c
  let main_v5 : FVec F S4 .f32 := Host.absf main_arg1
  let main_cst_0 : FVec F S_ .f32 := constant S_ .f32 0x7F800000#32
  let main_v6 : FVec F S4 .f32 := broadcastInDim S4 ![] bcast_S_S4 main_cst_0
  let main_v7 : IVec S4 1 := cmpf .olt main_v5 main_v6
  let main_c_1 : IVec S_ 1 := constantI S_ 1 1#1
  let main_v8 : IVec S_ 1 := (fun x v => Host.reduce IntOp.andi x v reducesTo_S4_S_d0 h_S_) main_v7 main_c_1
  let main_v9 : IVec S_ 1 := andi main_v4 main_v8
  main_v9
-- ==== Swa.lean ====
abbrev S16x2304x2688 : Shape := ⟨3, ![16, 2304, 2688]⟩
abbrev S4 : Shape := ⟨1, ![4]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S16x2304x256 : Shape := ⟨3, ![16, 2304, 256]⟩
abbrev S1x2304x256 : Shape := ⟨3, ![1, 2304, 256]⟩
abbrev S1x2304x128 : Shape := ⟨3, ![1, 2304, 128]⟩
abbrev S2048x128 : Shape := ⟨2, ![2048, 128]⟩
abbrev S1x2048x256 : Shape := ⟨3, ![1, 2048, 256]⟩
abbrev S1x2048x128 : Shape := ⟨3, ![1, 2048, 128]⟩
abbrev S512x1 : Shape := ⟨2, ![512, 1]⟩
abbrev S256x1 : Shape := ⟨2, ![256, 1]⟩
abbrev S1x384 : Shape := ⟨2, ![1, 384]⟩
abbrev S1 : Shape := ⟨1, ![1]⟩
abbrev S1x256x64 : Shape := ⟨3, ![1, 256, 64]⟩
abbrev S256x64 : Shape := ⟨2, ![256, 64]⟩
abbrev S512x64 : Shape := ⟨2, ![512, 64]⟩
abbrev S512x256 : Shape := ⟨2, ![512, 256]⟩
abbrev S512 : Shape := ⟨1, ![512]⟩
abbrev S128x64 : Shape := ⟨2, ![128, 64]⟩
abbrev S256x384 : Shape := ⟨2, ![256, 384]⟩
abbrev S384x64 : Shape := ⟨2, ![384, 64]⟩
abbrev S256x256 : Shape := ⟨2, ![256, 256]⟩
abbrev S256 : Shape := ⟨1, ![256]⟩
abbrev S1x384x64 : Shape := ⟨3, ![1, 384, 64]⟩
abbrev S1x128x64 : Shape := ⟨3, ![1, 128, 64]⟩

abbrev nBuf : Space → Nat
  | .hbm => 88
  | .vmem => 12
  | .smem => 1
  | _ => 0

abbrev bufTy : (tb : Table) → Fin (tcTables nBuf tb) → BufTy
  | .hbm, ⟨0, _⟩ => ⟨S16x2304x2688, .bf16⟩
  | .hbm, ⟨1, _⟩ => ⟨S4, .f32⟩
  | .hbm, ⟨2, _⟩ => ⟨S2048, .i32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S_, .i32⟩
  | .hbm, ⟨47, _⟩ => ⟨S2048, .i32⟩
  | .hbm, ⟨48, _⟩ => ⟨S2048, .i1⟩
  | .hbm, ⟨49, _⟩ => ⟨S_, .i32⟩
  | .hbm, ⟨50, _⟩ => ⟨S_, .i1⟩
  | .hbm, ⟨51, _⟩ => ⟨S2048, .i1⟩
  | .hbm, ⟨52, _⟩ => ⟨S2048, .i1⟩
  | .hbm, ⟨53, _⟩ => ⟨S2048, .i1⟩
  | .hbm, ⟨54, _⟩ => ⟨S2048, .i32⟩
  | .hbm, ⟨55, _⟩ => ⟨S2048, .i32⟩
  | .hbm, ⟨56, _⟩ => ⟨S2048, .i32⟩
  | .hbm, ⟨57, _⟩ => ⟨S2048, .f32⟩
  | .hbm, ⟨58, _⟩ => ⟨S2048x1, .f32⟩
  | .hbm, ⟨59, _⟩ => ⟨S1x16, .f32⟩
  | .hbm, ⟨60, _⟩ => ⟨S2048x16, .f32⟩
  | .hbm, ⟨61, _⟩ => ⟨S2048x16, .f32⟩
  | .hbm, ⟨62, _⟩ => ⟨S2048x16, .f32⟩
  | .hbm, ⟨63, _⟩ => ⟨S2048x16, .f32⟩
  | .hbm, ⟨64, _⟩ => ⟨S2048x16, .f32⟩
  | .hbm, ⟨65, _⟩ => ⟨S2048x16, .f32⟩
  | .hbm, ⟨66, _⟩ => ⟨S2048x16, .f32⟩
  | .hbm, ⟨67, _⟩ => ⟨S2048x16, .f32⟩
  | .hbm, ⟨68, _⟩ => ⟨S2048, .f32⟩
  | .hbm, ⟨69, _⟩ => ⟨S2048x1, .f32⟩
  | .hbm, ⟨70, _⟩ => ⟨S1x16, .f32⟩
  | .hbm, ⟨71, _⟩ => ⟨S2048x16, .f32⟩
  | .hbm, ⟨72, _⟩ => ⟨S2048x16, .f32⟩
  | .hbm, ⟨73, _⟩ => ⟨S2048x16, .f32⟩
  | .hbm, ⟨74, _⟩ => ⟨S2048x16, .f32⟩
  | .hbm, ⟨75, _⟩ => ⟨S2048x16, .f32⟩
  | .hbm, ⟨76, _⟩ => ⟨S2048x16, .f32⟩
  | .hbm, ⟨77, _⟩ => ⟨S2048x16, .f32⟩
  | .hbm, ⟨78, _⟩ => ⟨S2048x16, .f32⟩
  | .hbm, ⟨79, _⟩ => ⟨S2048x64, .f32⟩
  | .hbm, ⟨80, _⟩ => ⟨S2048x64, .f32⟩
  | .hbm, ⟨81, _⟩ => ⟨S1x2048x1x64, .f32⟩
  | .hbm, ⟨82, _⟩ => ⟨S1x2048x4x64, .f32⟩
  | .hbm, ⟨83, _⟩ => ⟨S2048x256, .f32⟩
  | .hbm, ⟨84, _⟩ => ⟨S1x2048x1x64, .f32⟩
  | .hbm, ⟨85, _⟩ => ⟨S1x2048x4x64, .f32⟩
  | .hbm, ⟨86, _⟩ => ⟨S2048x256, .f32⟩
  | .hbm, ⟨87, _⟩ => ⟨S16x2304x256, .bf16⟩
  | .local _ .vmem, ⟨0, _⟩ => ⟨S1x2304x256, .bf16⟩
  | .local _ .vmem, ⟨1, _⟩ => ⟨S1x2304x256, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S2048x256, .f32⟩
  | .local _ .vmem, ⟨7, _⟩ => ⟨S2048x256, .f32⟩
  | .local _ .vmem, ⟨8, _⟩ => ⟨S1x2304x256, .bf16⟩
  | .local _ .vmem, ⟨9, _⟩ => ⟨S1x2304x256, .bf16⟩
  | .local _ .vmem, ⟨10, _⟩ => ⟨S2048x256, .bf16⟩
  | .local _ .vmem, ⟨11, _⟩ => ⟨S2048x128, .bf16⟩
  | .local _ .smem, ⟨0, _⟩ => ⟨S4, .f32⟩
  | _, _ => ⟨S16x2304x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v11 : Ref sig .tc := ⟨.hbm, 34, rfl⟩
abbrev main_c_3 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_47 : BitVec 32 := 0#32
  let c16_i32_48 : BitVec 32 := 16#32
  let v124 : BitVec 32 := Scalar.addi c0_i32_47 c16_i32_48
  let c1_i32_49 : BitVec 32 := 1#32
  ⟨c0_i32_47, v124, c1_i32_49⟩
def k0_mult1 (k0_t1 : Fin k0_t1_loop.trips) : BitVec 32 :=
  let c0_i32_47 : BitVec 32 := 0#32
  let c1_i32_49 : BitVec 32 := 1#32
  let arg10 : BitVec 32 := Scf.iv c0_i32_47 c1_i32_49 k0_t1
  let c128_i32_81 : BitVec 32 := 128#32
  let v179 : BitVec 32 := Scalar.muli arg10 c128_i32_81
  v179
def k0_mult2 (k0_t1 : Fin k0_t1_loop.trips) : BitVec 32 :=
  let c13_i32 : BitVec 32 := 13#32
  let c0_i32_79 : BitVec 32 := 0#32
  let c0_i32_47 : BitVec 32 := 0#32
  let c1_i32_49 : BitVec 32 := 1#32
  let arg10 : BitVec 32 := Scf.iv c0_i32_47 c1_i32_49 k0_t1
  let c1_i32_78 : BitVec 32 := 1#32
  let v175 : BitVec 32 := Scalar.subi arg10 c1_i32_78
  let v176 : BitVec 32 := Scalar.maxsi c0_i32_79 v175
  let v177 : BitVec 32 := Scalar.minsi c13_i32 v176
  let c128_i32_80 : BitVec 32 := 128#32
  let v178 : BitVec 32 := Scalar.muli v177 c128_i32_80
  v178
def k0_mult3 (k0_t1 : Fin k0_t1_loop.trips) : BitVec 32 :=
  let c256_i32_82 : BitVec 32 := 256#32
  let c13_i32 : BitVec 32 := 13#32
  let c0_i32_79 : BitVec 32 := 0#32
  let c0_i32_47 : BitVec 32 := 0#32
  let c1_i32_49 : BitVec 32 := 1#32
  let arg10 : BitVec 32 := Scf.iv c0_i32_47 c1_i32_49 k0_t1
  let c1_i32_78 : BitVec 32 := 1#32
  let v175 : BitVec 32 := Scalar.subi arg10 c1_i32_78
  let v176 : BitVec 32 := Scalar.maxsi c0_i32_79 v175
  let v177 : BitVec 32 := Scalar.minsi c13_i32 v176
  let c128_i32_80 : BitVec 32 := 128#32
  let v178 : BitVec 32 := Scalar.muli v177 c128_i32_80
  let v182 : BitVec 32 := Scalar.addi c256_i32_82 v178
  v182
def k0_off1 (k0_t1 : Fin k0_t1_loop.trips) : Fin 2 → Nat :=
  let c0_i32_47 : BitVec 32 := 0#32
  let c1_i32_49 : BitVec 32 := 1#32
  let arg10 : BitVec 32 := Scf.iv c0_i32_47 c1_i32_49 k0_t1
  let c128_i32_81 : BitVec 32 := 128#32
  let v179 : BitVec 32 := Scalar.muli arg10 c128_i32_81
  let v180 : BitVec 32 := v179
  let v184 : Index := Scalar.indexCast v180
  let c0_83 : Index := 0#32
  ![v184.toNat, 0]
def k0_off2 (k0_t1 : Fin k0_t1_loop.trips) : Fin 2 → Nat :=
  let c0_i32_47 : BitVec 32 := 0#32
  let c1_i32_49 : BitVec 32 := 1#32
  let arg10 : BitVec 32 := Scf.iv c0_i32_47 c1_i32_49 k0_t1
  let c128_i32_81 : BitVec 32 := 128#32
  let v179 : BitVec 32 := Scalar.muli arg10 c128_i32_81
  let v180 : BitVec 32 := v179
  let v186 : Index := Scalar.indexCast v180
  let c64_84 : Index := 64#32
  ![v186.toNat, 64]
def k0_off3 (k0_t1 : Fin k0_t1_loop.trips) : Fin 2 → Nat :=
  let c13_i32 : BitVec 32 := 13#32
  let c0_i32_79 : BitVec 32 := 0#32
  let c0_i32_47 : BitVec 32 := 0#32
  let c1_i32_49 : BitVec 32 := 1#32
  let arg10 : BitVec 32 := Scf.iv c0_i32_47 c1_i32_49 k0_t1
  let c1_i32_78 : BitVec 32 := 1#32
  let v175 : BitVec 32 := Scalar.subi arg10 c1_i32_78
  let v176 : BitVec 32 := Scalar.maxsi c0_i32_79 v175
  let v177 : BitVec 32 := Scalar.minsi c13_i32 v176
  let c128_i32_80 : BitVec 32 := 128#32
  let v178 : BitVec 32 := Scalar.muli v177 c128_i32_80
  let v181 : BitVec 32 := v178
  let v216 : Index := Scalar.indexCast v181
  let c0_93 : Index := 0#32
  ![v216.toNat, 0]
def k0_off4 (k0_t1 : Fin k0_t1_loop.trips) : Fin 3 → Nat :=
  let c0_101 : Index := 0#32
  let c256_i32_82 : BitVec 32 := 256#32
  let c13_i32 : BitVec 32 := 13#32
  let c0_i32_79 : BitVec 32 := 0#32
  let c0_i32_47 : BitVec 32 := 0#32
  let c1_i32_49 : BitVec 32 := 1#32
  let arg10 : BitVec 32 := Scf.iv c0_i32_47 c1_i32_49 k0_t1
  let c1_i32_78 : BitVec 32 := 1#32
  let v175 : BitVec 32 := Scalar.subi arg10 c1_i32_78
  let v176 : BitVec 32 := Scalar.maxsi c0_i32_79 v175
  let v177 : BitVec 32 := Scalar.minsi c13_i32 v176
  let c128_i32_80 : BitVec 32 := 128#32
  let v178 : BitVec 32 := Scalar.muli v177 c128_i32_80
  let v182 : BitVec 32 := Scalar.addi c256_i32_82 v178
  let v183 : BitVec 32 := v182
  let v243 : Index := Scalar.indexCast v183
  let c0_102 : Index := 0#32
  ![0, v243.toNat, 0]
def k0_mult4 (k0_t1 : Fin k0_t1_loop.trips) : BitVec 32 :=
  let c256_i32_106 : BitVec 32 := 256#32
  let c0_i32_47 : BitVec 32 := 0#32
  let c1_i32_49 : BitVec 32 := 1#32
  let arg10 : BitVec 32 := Scf.iv c0_i32_47 c1_i32_49 k0_t1
  let c128_i32_105 : BitVec 32 := 128#32
  let v252 : BitVec 32 := Scalar.muli arg10 c128_i32_105
  let v253 : BitVec 32 := Scalar.addi c256_i32_106 v252
  v253
def k0_off5 (k0_t1 : Fin k0_t1_loop.trips) : Fin 3 → Nat :=
  let c0_107 : Index := 0#32
  let c256_i32_106 : BitVec 32 := 256#32
  let c0_i32_47 : BitVec 32 := 0#32
  let c1_i32_49 : BitVec 32 := 1#32
  let arg10 : BitVec 32 := Scf.iv c0_i32_47 c1_i32_49 k0_t1
  let c128_i32_105 : BitVec 32 := 128#32
  let v252 : BitVec 32 := Scalar.muli arg10 c128_i32_105
  let v253 : BitVec 32 := Scalar.addi c256_i32_106 v252
  let v254 : BitVec 32 := v253
  let v257 : Index := Scalar.indexCast v254
  let c0_108 : Index := 0#32
  ![0, v257.toNat, 0]
def k0_off6 (k0_t1 : Fin k0_t1_loop.trips) : Fin 3 → Nat :=
  let c0_109 : Index := 0#32
  let c256_i32_106 : BitVec 32 := 256#32
  let c0_i32_47 : BitVec 32 := 0#32
  let c1_i32_49 : BitVec 32 := 1#32
  let arg10 : BitVec 32 := Scf.iv c0_i32_47 c1_i32_49 k0_t1
  let c128_i32_105 : BitVec 32 := 128#32
  let v252 : BitVec 32 := Scalar.muli arg10 c128_i32_105
  let v253 : BitVec 32 := Scalar.addi c256_i32_106 v252
  let v254 : BitVec 32 := v253
  let v263 : Index := Scalar.indexCast v254
  let c64_110 : Index := 64#32
  ![0, v263.toNat, 64]
@[reducible] def k0_t2_loop : Scf.Loop 32 :=
  let c0_i32_74 : BitVec 32 := 0#32
  let c16_i32_75 : BitVec 32 := 16#32
  let v174 : BitVec 32 := Scalar.addi c0_i32_74 c16_i32_75
  let c1_i32_76 : BitVec 32 := 1#32
  ⟨c0_i32_74, v174, c1_i32_76⟩
def k0_mult5 (k0_t2 : Fin k0_t2_loop.trips) : BitVec 32 :=
  let c0_i32_74 : BitVec 32 := 0#32
  let c1_i32_76 : BitVec 32 := 1#32
  let arg10 : BitVec 32 := Scf.iv c0_i32_74 c1_i32_76 k0_t2
  let c128_i32_81 : BitVec 32 := 128#32
  let v179 : BitVec 32 := Scalar.muli arg10 c128_i32_81
  v179
def k0_mult6 (k0_t2 : Fin k0_t2_loop.trips) : BitVec 32 :=
  let c13_i32 : BitVec 32 := 13#32
  let c0_i32_79 : BitVec 32 := 0#32
  let c0_i32_74 : BitVec 32 := 0#32
  let c1_i32_76 : BitVec 32 := 1#32
  let arg10 : BitVec 32 := Scf.iv c0_i32_74 c1_i32_76 k0_t2
  let c1_i32_78 : BitVec 32 := 1#32
  let v175 : BitVec 32 := Scalar.subi arg10 c1_i32_78
  let v176 : BitVec 32 := Scalar.maxsi c0_i32_79 v175
  let v177 : BitVec 32 := Scalar.minsi c13_i32 v176
  let c128_i32_80 : BitVec 32 := 128#32
  let v178 : BitVec 32 := Scalar.muli v177 c128_i32_80
  v178
def k0_mult7 (k0_t2 : Fin k0_t2_loop.trips) : BitVec 32 :=
  let c256_i32_82 : BitVec 32 := 256#32
  let c13_i32 : BitVec 32 := 13#32
  let c0_i32_79 : BitVec 32 := 0#32
  let c0_i32_74 : BitVec 32 := 0#32
  let c1_i32_76 : BitVec 32 := 1#32
  let arg10 : BitVec 32 := Scf.iv c0_i32_74 c1_i32_76 k0_t2
  let c1_i32_78 : BitVec 32 := 1#32
  let v175 : BitVec 32 := Scalar.subi arg10 c1_i32_78
  let v176 : BitVec 32 := Scalar.maxsi c0_i32_79 v175
  let v177 : BitVec 32 := Scalar.minsi c13_i32 v176
  let c128_i32_80 : BitVec 32 := 128#32
  let v178 : BitVec 32 := Scalar.muli v177 c128_i32_80
  let v182 : BitVec 32 := Scalar.addi c256_i32_82 v178
  v182
def k0_off7 (k0_t2 : Fin k0_t2_loop.trips) : Fin 2 → Nat :=
  let c0_i32_74 : BitVec 32 := 0#32
  let c1_i32_76 : BitVec 32 := 1#32
  let arg10 : BitVec 32 := Scf.iv c0_i32_74 c1_i32_76 k0_t2
  let c128_i32_81 : BitVec 32 := 128#32
  let v179 : BitVec 32 := Scalar.muli arg10 c128_i32_81
  let v180 : BitVec 32 := v179
  let v184 : Index := Scalar.indexCast v180
  let c128_83 : Index := 128#32
  ![v184.toNat, 128]
def k0_off8 (k0_t2 : Fin k0_t2_loop.trips) : Fin 2 → Nat :=
  let c0_i32_74 : BitVec 32 := 0#32
  let c1_i32_76 : BitVec 32 := 1#32
  let arg10 : BitVec 32 := Scf.iv c0_i32_74 c1_i32_76 k0_t2
  let c128_i32_81 : BitVec 32 := 128#32
  let v179 : BitVec 32 := Scalar.muli arg10 c128_i32_81
  let v180 : BitVec 32 := v179
  let v186 : Index := Scalar.indexCast v180
  let c192_84 : Index := 192#32
  ![v186.toNat, 192]
def k0_off9 (k0_t2 : Fin k0_t2_loop.trips) : Fin 2 → Nat :=
  let c13_i32 : BitVec 32 := 13#32
  let c0_i32_79 : BitVec 32 := 0#32
  let c0_i32_74 : BitVec 32 := 0#32
  let c1_i32_76 : BitVec 32 := 1#32
  let arg10 : BitVec 32 := Scf.iv c0_i32_74 c1_i32_76 k0_t2
  let c1_i32_78 : BitVec 32 := 1#32
  let v175 : BitVec 32 := Scalar.subi arg10 c1_i32_78
  let v176 : BitVec 32 := Scalar.maxsi c0_i32_79 v175
  let v177 : BitVec 32 := Scalar.minsi c13_i32 v176
  let c128_i32_80 : BitVec 32 := 128#32
  let v178 : BitVec 32 := Scalar.muli v177 c128_i32_80
  let v181 : BitVec 32 := v178
  let v216 : Index := Scalar.indexCast v181
  let c64_93 : Index := 64#32
  ![v216.toNat, 64]
def k0_off10 (k0_t2 : Fin k0_t2_loop.trips) : Fin 3 → Nat :=
  let c0_101 : Index := 0#32
  let c256_i32_82 : BitVec 32 := 256#32
  let c13_i32 : BitVec 32 := 13#32
  let c0_i32_79 : BitVec 32 := 0#32
  let c0_i32_74 : BitVec 32 := 0#32
  let c1_i32_76 : BitVec 32 := 1#32
  let arg10 : BitVec 32 := Scf.iv c0_i32_74 c1_i32_76 k0_t2
  let c1_i32_78 : BitVec 32 := 1#32
  let v175 : BitVec 32 := Scalar.subi arg10 c1_i32_78
  let v176 : BitVec 32 := Scalar.maxsi c0_i32_79 v175
  let v177 : BitVec 32 := Scalar.minsi c13_i32 v176
  let c128_i32_80 : BitVec 32 := 128#32
  let v178 : BitVec 32 := Scalar.muli v177 c128_i32_80
  let v182 : BitVec 32 := Scalar.addi c256_i32_82 v178
  let v183 : BitVec 32 := v182
  let v243 : Index := Scalar.indexCast v183
  let c64_102 : Index := 64#32
  ![0, v243.toNat, 64]
def k0_mult8 (k0_t2 : Fin k0_t2_loop.trips) : BitVec 32 :=
  let c256_i32_106 : BitVec 32 := 256#32
  let c0_i32_74 : BitVec 32 := 0#32
  let c1_i32_76 : BitVec 32 := 1#32
  let arg10 : BitVec 32 := Scf.iv c0_i32_74 c1_i32_76 k0_t2
  let c128_i32_105 : BitVec 32 := 128#32
  let v252 : BitVec 32 := Scalar.muli arg10 c128_i32_105
  let v253 : BitVec 32 := Scalar.addi c256_i32_106 v252
  v253
def k0_off11 (k0_t2 : Fin k0_t2_loop.trips) : Fin 3 → Nat :=
  let c0_107 : Index := 0#32
  let c256_i32_106 : BitVec 32 := 256#32
  let c0_i32_74 : BitVec 32 := 0#32
  let c1_i32_76 : BitVec 32 := 1#32
  let arg10 : BitVec 32 := Scf.iv c0_i32_74 c1_i32_76 k0_t2
  let c128_i32_105 : BitVec 32 := 128#32
  let v252 : BitVec 32 := Scalar.muli arg10 c128_i32_105
  let v253 : BitVec 32 := Scalar.addi c256_i32_106 v252
  let v254 : BitVec 32 := v253
  let v257 : Index := Scalar.indexCast v254
  let c128_108 : Index := 128#32
  ![0, v257.toNat, 128]
def k0_off12 (k0_t2 : Fin k0_t2_loop.trips) : Fin 3 → Nat :=
  let c0_109 : Index := 0#32
  let c256_i32_106 : BitVec 32 := 256#32
  let c0_i32_74 : BitVec 32 := 0#32
  let c1_i32_76 : BitVec 32 := 1#32
  let arg10 : BitVec 32 := Scf.iv c0_i32_74 c1_i32_76 k0_t2
  let c128_i32_105 : BitVec 32 := 128#32
  let v252 : BitVec 32 := Scalar.muli arg10 c128_i32_105
  let v253 : BitVec 32 := Scalar.addi c256_i32_106 v252
  let v254 : BitVec 32 := v253
  let v263 : Index := Scalar.indexCast v254
  let c192_110 : Index := 192#32
  ![0, v263.toNat, 192]
def cc0_transform_0 (i : grid0.Coords) : Fin 3 → Nat :=
  let arg0 : BitVec 32 := BitVec.ofNat 32 (i 0).val
  let c0_i32 : BitVec 32 := 0#32
  let c8_i32 : BitVec 32 := 8#32
  let c0_i32_0 : BitVec 32 := 0#32
  ![arg0.toNat, c0_i32.toNat, c8_i32.toNat]

def cc0_transform_1 (i : grid0.Coords) : Fin 3 → Nat :=
  let arg0 : BitVec 32 := BitVec.ofNat 32 (i 0).val
  let c0_i32 : BitVec 32 := 0#32
  let c18_i32 : BitVec 32 := 18#32
  let c0_i32_0 : BitVec 32 := 0#32
  ![arg0.toNat, c0_i32.toNat, c18_i32.toNat]

def cc0_transform_2 (i : grid0.Coords) : Fin 3 → Nat :=
  let arg0 : BitVec 32 := BitVec.ofNat 32 (i 0).val
  let c0_i32 : BitVec 32 := 0#32
  let c19_i32 : BitVec 32 := 19#32
  let c0_i32_0 : BitVec 32 := 0#32
  ![arg0.toNat, c0_i32.toNat, c19_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2304x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SwaIdeal.lean ====
variable {F : FTy → Type} [FloatOps F] [Named F]
def κ : String → Option EReal := fun
  | "mask" => some ⊥
  | _ => none
-- ==== SwaRefIdeal.lean ====
abbrev S16x2304x2688 : Shape := ⟨3, ![16, 2304, 2688]⟩
abbrev S4 : Shape := ⟨1, ![4]⟩
abbrev S16x256x2688 : Shape := ⟨3, ![16, 256, 2688]⟩
abbrev S16x2048x2688 : Shape := ⟨3, ![16, 2048, 2688]⟩
abbrev S16x256x256 : Shape := ⟨3, ![16, 256, 256]⟩
abbrev S16x256x128 : Shape := ⟨3, ![16, 256, 128]⟩
abbrev S16x2048x256 : Shape := ⟨3, ![16, 2048, 256]⟩
abbrev S16x2048x128 : Shape := ⟨3, ![16, 2048, 128]⟩
abbrev S2048 : Shape := ⟨1, ![2048]⟩
abbrev S_ : Shape := ⟨0, ![]⟩
abbrev S16x2048x4x64 : Shape := ⟨4, ![16, 2048, 4, 64]⟩
abbrev S16x2048x4x32 : Shape := ⟨4, ![16, 2048, 4, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S16x2048x4x16 : Shape := ⟨4, ![16, 2048, 4, 16]⟩
abbrev S16x16x128x2x2x64 : Shape := ⟨6, ![16, 16, 128, 2, 2, 64]⟩
abbrev S16x2048x2x64 : Shape := ⟨4, ![16, 2048, 2, 64]⟩
abbrev S16x2048x2x32 : Shape := ⟨4, ![16, 2048, 2, 32]⟩
abbrev S16x2048x2x16 : Shape := ⟨4, ![16, 2048, 2, 16]⟩
abbrev S16x2304x2x64 : Shape := ⟨4, ![16, 2304, 2, 64]⟩
abbrev S16x18x128x2x64 : Shape := ⟨5, ![16, 18, 128, 2, 64]⟩
abbrev S16x16x128x2x64 : Shape := ⟨5, ![16, 16, 128, 2, 64]⟩
abbrev S16x16x384x2x64 : Shape := ⟨5, ![16, 16, 384, 2, 64]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S384 : Shape := ⟨1, ![384]⟩
abbrev S1x384 : Shape := ⟨2, ![1, 384]⟩
abbrev S16x384 : Shape := ⟨2, ![16, 384]⟩
abbrev S16x1x384 : Shape := ⟨3, ![16, 1, 384]⟩
abbrev S16x128x1 : Shape := ⟨3, ![16, 128, 1]⟩
abbrev S16x128x384 : Shape := ⟨3, ![16, 128, 384]⟩
abbrev S16x256x2x64 : Shape := ⟨4, ![16, 256, 2, 64]⟩
abbrev S16x2x16x384x128x2 : Shape := ⟨6, ![16, 2, 16, 384, 128, 2]⟩
abbrev S16x2x2x16x128x384 : Shape := ⟨6, ![16, 2, 2, 16, 128, 384]⟩
abbrev S16x2x256x16x128x2 : Shape := ⟨6, ![16, 2, 256, 16, 128, 2]⟩
abbrev S16x2x2x16x128x256 : Shape := ⟨6, ![16, 2, 2, 16, 128, 256]⟩
abbrev S2x2x1x1x1 : Shape := ⟨5, ![2, 2, 1, 1, 1]⟩
abbrev S16x2x2x16x128x1 : Shape := ⟨6, ![16, 2, 2, 16, 128, 1]⟩
abbrev S16x2x2x16x128x641 : Shape := ⟨6, ![16, 2, 2, 16, 128, 641]⟩
abbrev S16x2x2x16x128 : Shape := ⟨5, ![16, 2, 2, 16, 128]⟩
abbrev S16x16x2x64x2x128 : Shape := ⟨6, ![16, 16, 2, 64, 2, 128]⟩
abbrev S16x2x64x2x16x128 : Shape := ⟨6, ![16, 2, 64, 2, 16, 128]⟩
abbrev S16x256x2x2x64 : Shape := ⟨5, ![16, 256, 2, 2, 64]⟩
abbrev S16x2x256x256x2 : Shape := ⟨5, ![16, 2, 256, 256, 2]⟩
abbrev S16x2x2x256x256 : Shape := ⟨5, ![16, 2, 2, 256, 256]⟩
abbrev S2x2x1x1 : Shape := ⟨4, ![2, 2, 1, 1]⟩
abbrev S16x2x2x256x1 : Shape := ⟨5, ![16, 2, 2, 256, 1]⟩
abbrev S16x2x2x256x257 : Shape := ⟨5, ![16, 2, 2, 256, 257]⟩
abbrev S16x2x2x256 : Shape := ⟨4, ![16, 2, 2, 256]⟩
abbrev S16x2x64x2x256 : Shape := ⟨5, ![16, 2, 64, 2, 256]⟩
abbrev S16x2304x256 : Shape := ⟨3, ![16, 2304, 256]⟩

abbrev nBuf : Space → Nat
  | .hbm => 342
  | .vmem => 0
  | .smem => 0
  | _ => 0

abbrev hbmTy0_0 (i : Nat) : BufTy := match i % 128 with
  | 0 => ⟨S16x2304x2688, .bf16⟩
  | 1 => ⟨S4, .f32⟩
  | 2 => ⟨S16x2304x2688, .f32⟩
  | 3 => ⟨S16x256x2688, .f32⟩
  | 4 => ⟨S16x2048x2688, .f32⟩
  | 5 => ⟨S16x256x256, .f32⟩
  | 6 => ⟨S16x256x128, .f32⟩
  | 7 => ⟨S16x256x128, .f32⟩
  | 8 => ⟨S16x2048x256, .f32⟩
  | 9 => ⟨S16x2048x128, .f32⟩
  | 10 => ⟨S16x2048x128, .f32⟩
  | 11 => ⟨S2048, .i32⟩
  | 12 => ⟨S_, .i32⟩
  | 13 => ⟨S_, .i32⟩
  | 14 => ⟨S2048, .i32⟩
  | 15 => ⟨S2048, .i32⟩
  | 16 => ⟨S2048, .i32⟩
  | 17 => ⟨S_, .i32⟩
  | 18 => ⟨S2048, .i32⟩
  | 19 => ⟨S2048, .i1⟩
  | 20 => ⟨S2048, .i32⟩
  | 21 => ⟨S2048, .i32⟩
  | 22 => ⟨S_, .i32⟩
  | 23 => ⟨S2048, .i32⟩
  | 24 => ⟨S2048, .i1⟩
  | 25 => ⟨S2048, .i1⟩
  | 26 => ⟨S_, .i32⟩
  | 27 => ⟨S2048, .i32⟩
  | 28 => ⟨S2048, .i32⟩
  | 29 => ⟨S2048, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S2048, .i32⟩
  | 37 => ⟨S2048, .i32⟩
  | 38 => ⟨S_, .i32⟩
  | 39 => ⟨S2048, .i32⟩
  | 40 => ⟨S2048, .i1⟩
  | 41 => ⟨S_, .i32⟩
  | 42 => ⟨S2048, .i32⟩
  | 43 => ⟨S2048, .i1⟩
  | 44 => ⟨S_, .i32⟩
  | 45 => ⟨S_, .i1⟩
  | 46 => ⟨S2048, .i1⟩
  | 47 => ⟨S2048, .i1⟩
  | 48 => ⟨S2048, .i1⟩
  | 49 => ⟨S2048, .i32⟩
  | 50 => ⟨S2048, .i32⟩
  | 51 => ⟨S2048, .i32⟩
  | 52 => ⟨S16x2048x4x64, .f32⟩
  | 53 => ⟨S16x2048x4x32, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S16, .f32⟩
  | 62 => ⟨S_, .f32⟩
  | 63 => ⟨S16, .f32⟩
  | 64 => ⟨S16, .f32⟩
  | 65 => ⟨S_, .f32⟩
  | 66 => ⟨S16, .f32⟩
  | 67 => ⟨S16, .f32⟩
  | 68 => ⟨S2048, .f32⟩
  | 69 => ⟨S2048x1, .f32⟩
  | 70 => ⟨S1x16, .f32⟩
  | 71 => ⟨S2048x16, .f32⟩
  | 72 => ⟨S2048x16, .f32⟩
  | 73 => ⟨S2048x16, .f32⟩
  | 74 => ⟨S2048x16, .f32⟩
  | 75 => ⟨S1x2048x1x16, .f32⟩
  | 76 => ⟨S2048x16, .f32⟩
  | 77 => ⟨S1x2048x1x16, .f32⟩
  | 78 => ⟨S16x2048x4x16, .f32⟩
  | 79 => ⟨S16x2048x4x16, .f32⟩
  | 80 => ⟨S16x2048x4x16, .f32⟩
  | 81 => ⟨S16x2048x4x16, .f32⟩
  | 82 => ⟨S16x2048x4x16, .f32⟩
  | 83 => ⟨S16x2048x4x16, .f32⟩
  | 84 => ⟨S16x2048x4x16, .f32⟩
  | 85 => ⟨S16x2048x4x16, .f32⟩
  | 86 => ⟨S16x2048x4x16, .f32⟩
  | 87 => ⟨S16x2048x4x16, .f32⟩
  | 88 => ⟨S16x2048x4x16, .f32⟩
  | 89 => ⟨S16x2048x4x16, .f32⟩
  | 90 => ⟨S16x2048x4x32, .f32⟩
  | 91 => ⟨S16x2048x4x32, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S16, .f32⟩
  | 100 => ⟨S_, .f32⟩
  | 101 => ⟨S16, .f32⟩
  | 102 => ⟨S16, .f32⟩
  | 103 => ⟨S_, .f32⟩
  | 104 => ⟨S16, .f32⟩
  | 105 => ⟨S16, .f32⟩
  | 106 => ⟨S2048, .f32⟩
  | 107 => ⟨S2048x1, .f32⟩
  | 108 => ⟨S1x16, .f32⟩
  | 109 => ⟨S2048x16, .f32⟩
  | 110 => ⟨S2048x16, .f32⟩
  | 111 => ⟨S2048x16, .f32⟩
  | 112 => ⟨S2048x16, .f32⟩
  | 113 => ⟨S1x2048x1x16, .f32⟩
  | 114 => ⟨S2048x16, .f32⟩
  | 115 => ⟨S1x2048x1x16, .f32⟩
  | 116 => ⟨S16x2048x4x16, .f32⟩
  | 117 => ⟨S16x2048x4x16, .f32⟩
  | 118 => ⟨S16x2048x4x16, .f32⟩
  | 119 => ⟨S16x2048x4x16, .f32⟩
  | 120 => ⟨S16x2048x4x16, .f32⟩
  | 121 => ⟨S16x2048x4x16, .f32⟩
  | 122 => ⟨S16x2048x4x16, .f32⟩
  | 123 => ⟨S16x2048x4x16, .f32⟩
  | 124 => ⟨S16x2048x4x16, .f32⟩
  | 125 => ⟨S16x2048x4x16, .f32⟩
  | 126 => ⟨S16x2048x4x16, .f32⟩
  | 127 => ⟨S16x2048x4x16, .f32⟩
  | _ => ⟨S16x2304x2688, .bf16⟩

abbrev hbmTy0_1 (i : Nat) : BufTy := match i % 128 with
  | 0 => ⟨S16x2048x4x32, .f32⟩
  | 1 => ⟨S16x2048x4x64, .f32⟩
  | 2 => ⟨S16x16x128x2x2x64, .f32⟩
  | 3 => ⟨S16x2048x2x64, .f32⟩
  | 4 => ⟨S16x2048x2x32, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S2048, .f32⟩
  | 20 => ⟨S2048x1, .f32⟩
  | 21 => ⟨S1x16, .f32⟩
  | 22 => ⟨S2048x16, .f32⟩
  | 23 => ⟨S2048x16, .f32⟩
  | 24 => ⟨S2048x16, .f32⟩
  | 25 => ⟨S2048x16, .f32⟩
  | 26 => ⟨S1x2048x1x16, .f32⟩
  | 27 => ⟨S2048x16, .f32⟩
  | 28 => ⟨S1x2048x1x16, .f32⟩
  | 29 => ⟨S16x2048x2x16, .f32⟩
  | 30 => ⟨S16x2048x2x16, .f32⟩
  | 31 => ⟨S16x2048x2x16, .f32⟩
  | 32 => ⟨S16x2048x2x16, .f32⟩
  | 33 => ⟨S16x2048x2x16, .f32⟩
  | 34 => ⟨S16x2048x2x16, .f32⟩
  | 35 => ⟨S16x2048x2x16, .f32⟩
  | 36 => ⟨S16x2048x2x16, .f32⟩
  | 37 => ⟨S16x2048x2x16, .f32⟩
  | 38 => ⟨S16x2048x2x16, .f32⟩
  | 39 => ⟨S16x2048x2x16, .f32⟩
  | 40 => ⟨S16x2048x2x16, .f32⟩
  | 41 => ⟨S16x2048x2x32, .f32⟩
  | 42 => ⟨S16x2048x2x32, .f32⟩
  | 43 => ⟨S16, .f32⟩
  | 44 => ⟨S_, .f32⟩
  | 45 => ⟨S16, .f32⟩
  | 46 => ⟨S16, .f32⟩
  | 47 => ⟨S_, .f32⟩
  | 48 => ⟨S16, .f32⟩
  | 49 => ⟨S16, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S2048, .f32⟩
  | 58 => ⟨S2048x1, .f32⟩
  | 59 => ⟨S1x16, .f32⟩
  | 60 => ⟨S2048x16, .f32⟩
  | 61 => ⟨S2048x16, .f32⟩
  | 62 => ⟨S2048x16, .f32⟩
  | 63 => ⟨S2048x16, .f32⟩
  | 64 => ⟨S1x2048x1x16, .f32⟩
  | 65 => ⟨S2048x16, .f32⟩
  | 66 => ⟨S1x2048x1x16, .f32⟩
  | 67 => ⟨S16x2048x2x16, .f32⟩
  | 68 => ⟨S16x2048x2x16, .f32⟩
  | 69 => ⟨S16x2048x2x16, .f32⟩
  | 70 => ⟨S16x2048x2x16, .f32⟩
  | 71 => ⟨S16x2048x2x16, .f32⟩
  | 72 => ⟨S16x2048x2x16, .f32⟩
  | 73 => ⟨S16x2048x2x16, .f32⟩
  | 74 => ⟨S16x2048x2x16, .f32⟩
  | 75 => ⟨S16x2048x2x16, .f32⟩
  | 76 => ⟨S16x2048x2x16, .f32⟩
  | 77 => ⟨S16x2048x2x16, .f32⟩
  | 78 => ⟨S16x2048x2x16, .f32⟩
  | 79 => ⟨S16x2048x2x32, .f32⟩
  | 80 => ⟨S16x2048x2x64, .f32⟩
  | 81 => ⟨S16x2048x2x64, .f32⟩
  | 82 => ⟨S_, .i32⟩
  | 83 => ⟨S_, .f32⟩
  | 84 => ⟨S16x2304x2x64, .f32⟩
  | 85 => ⟨S16x18x128x2x64, .f32⟩
  | 86 => ⟨S16x16x128x2x64, .f32⟩
  | 87 => ⟨S16x16x128x2x64, .f32⟩
  | 88 => ⟨S16x16x128x2x64, .f32⟩
  | 89 => ⟨S16x16x384x2x64, .f32⟩
  | 90 => ⟨S_, .i32⟩
  | 91 => ⟨S_, .f32⟩
  | 92 => ⟨S16x2304x2x64, .f32⟩
  | 93 => ⟨S16x18x128x2x64, .f32⟩
  | 94 => ⟨S16x16x128x2x64, .f32⟩
  | 95 => ⟨S16x16x128x2x64, .f32⟩
  | 96 => ⟨S16x16x128x2x64, .f32⟩
  | 97 => ⟨S16x16x384x2x64, .f32⟩
  | 98 => ⟨S16, .i32⟩
  | 99 => ⟨S16x1, .i32⟩
  | 100 => ⟨S_, .i32⟩
  | 101 => ⟨S16x1, .i32⟩
  | 102 => ⟨S16x1, .i32⟩
  | 103 => ⟨S128, .i32⟩
  | 104 => ⟨S1x128, .i32⟩
  | 105 => ⟨S16x128, .i32⟩
  | 106 => ⟨S16x128, .i32⟩
  | 107 => ⟨S16x128, .i32⟩
  | 108 => ⟨S16, .i32⟩
  | 109 => ⟨S16x1, .i32⟩
  | 110 => ⟨S_, .i32⟩
  | 111 => ⟨S16x1, .i32⟩
  | 112 => ⟨S16x1, .i32⟩
  | 113 => ⟨S_, .i32⟩
  | 114 => ⟨S16x1, .i32⟩
  | 115 => ⟨S16x1, .i32⟩
  | 116 => ⟨S384, .i32⟩
  | 117 => ⟨S1x384, .i32⟩
  | 118 => ⟨S16x384, .i32⟩
  | 119 => ⟨S16x384, .i32⟩
  | 120 => ⟨S16x384, .i32⟩
  | 121 => ⟨S16x1x384, .i32⟩
  | 122 => ⟨S_, .i32⟩
  | 123 => ⟨S16x1x384, .i32⟩
  | 124 => ⟨S16x1x384, .i1⟩
  | 125 => ⟨S16x1x384, .i32⟩
  | 126 => ⟨S_, .i32⟩
  | 127 => ⟨S16x1x384, .i32⟩
  | _ => ⟨S16x2304x2688, .bf16⟩

abbrev hbmTy0_2 (i : Nat) : BufTy := match i % 128 with
  | 0 => ⟨S16x1x384, .i1⟩
  | 1 => ⟨S16x1x384, .i1⟩
  | 2 => ⟨S16x128x1, .i32⟩
  | 3 => ⟨S16x1x384, .i32⟩
  | 4 => ⟨S16x128x384, .i32⟩
  | 5 => ⟨S16x128x384, .i32⟩
  | 6 => ⟨S16x128x384, .i32⟩
  | 7 => ⟨S16x128x384, .i32⟩
  | 8 => ⟨S_, .i32⟩
  | 9 => ⟨S16x128x384, .i32⟩
  | 10 => ⟨S16x128x384, .i1⟩
  | 11 => ⟨S16x128x384, .i1⟩
  | 12 => ⟨S16x128x384, .i1⟩
  | 13 => ⟨S16x256x2x64, .f32⟩
  | 14 => ⟨S16x256x2x64, .f32⟩
  | 15 => ⟨S16x2x16x384x128x2, .f32⟩
  | 16 => ⟨S16x2x2x16x128x384, .f32⟩
  | 17 => ⟨S_, .f32⟩
  | 18 => ⟨S16x2x2x16x128x384, .f32⟩
  | 19 => ⟨S16x2x2x16x128x384, .f32⟩
  | 20 => ⟨S_, .f32⟩
  | 21 => ⟨S_, .f32⟩
  | 22 => ⟨S16x2x2x16x128x384, .i1⟩
  | 23 => ⟨S16x2x2x16x128x384, .f32⟩
  | 24 => ⟨S16x2x2x16x128x384, .f32⟩
  | 25 => ⟨S16x2x256x16x128x2, .f32⟩
  | 26 => ⟨S16x2x2x16x128x256, .f32⟩
  | 27 => ⟨S_, .f32⟩
  | 28 => ⟨S16x2x2x16x128x256, .f32⟩
  | 29 => ⟨S16x2x2x16x128x256, .f32⟩
  | 30 => ⟨S2x2x1x1x1, .f32⟩
  | 31 => ⟨S16x2x2x16x128x1, .f32⟩
  | 32 => ⟨S16x2x2x16x128x641, .f32⟩
  | 33 => ⟨S_, .f32⟩
  | 34 => ⟨S16x2x2x16x128, .f32⟩
  | 35 => ⟨S_, .f32⟩
  | 36 => ⟨S16x2x2x16x128, .f32⟩
  | 37 => ⟨S16x2x2x16x128, .f32⟩
  | 38 => ⟨S16x2x2x16x128x1, .f32⟩
  | 39 => ⟨S16x2x2x16x128x641, .f32⟩
  | 40 => ⟨S16x2x2x16x128x641, .f32⟩
  | 41 => ⟨S16x2x2x16x128x641, .f32⟩
  | 42 => ⟨S_, .f32⟩
  | 43 => ⟨S16x2x2x16x128, .f32⟩
  | 44 => ⟨S16x2x2x16x128x1, .f32⟩
  | 45 => ⟨S16x2x2x16x128x641, .f32⟩
  | 46 => ⟨S16x2x2x16x128x641, .f32⟩
  | 47 => ⟨S16x2x2x16x128x384, .f32⟩
  | 48 => ⟨S16x2x2x16x128x256, .f32⟩
  | 49 => ⟨S16x2x2x16x128x1, .f32⟩
  | 50 => ⟨S16x16x2x64x2x128, .f32⟩
  | 51 => ⟨S16x16x128x2x2x64, .f32⟩
  | 52 => ⟨S16x2x64x2x16x128, .f32⟩
  | 53 => ⟨S16x16x128x2x2x64, .f32⟩
  | 54 => ⟨S16x16x128x2x2x64, .f32⟩
  | 55 => ⟨S16x2048x256, .f32⟩
  | 56 => ⟨S16x256x2x2x64, .f32⟩
  | 57 => ⟨S16x2x256x256x2, .f32⟩
  | 58 => ⟨S16x2x2x256x256, .f32⟩
  | 59 => ⟨S_, .f32⟩
  | 60 => ⟨S16x2x2x256x256, .f32⟩
  | 61 => ⟨S16x2x2x256x256, .f32⟩
  | 62 => ⟨S2x2x1x1, .f32⟩
  | 63 => ⟨S16x2x2x256x1, .f32⟩
  | 64 => ⟨S16x2x2x256x257, .f32⟩
  | 65 => ⟨S_, .f32⟩
  | 66 => ⟨S16x2x2x256, .f32⟩
  | 67 => ⟨S_, .f32⟩
  | 68 => ⟨S16x2x2x256, .f32⟩
  | 69 => ⟨S16x2x2x256, .f32⟩
  | 70 => ⟨S16x2x2x256x1, .f32⟩
  | 71 => ⟨S16x2x2x256x257, .f32⟩
  | 72 => ⟨S16x2x2x256x257, .f32⟩
  | 73 => ⟨S16x2x2x256x257, .f32⟩
  | 74 => ⟨S_, .f32⟩
  | 75 => ⟨S16x2x2x256, .f32⟩
  | 76 => ⟨S16x2x2x256x1, .f32⟩
  | 77 => ⟨S16x2x2x256x257, .f32⟩
  | 78 => ⟨S16x2x2x256x257, .f32⟩
  | 79 => ⟨S16x2x2x256x256, .f32⟩
  | 80 => ⟨S16x2x2x256x1, .f32⟩
  | 81 => ⟨S16x2x64x2x256, .f32⟩
  | 82 => ⟨S16x256x2x2x64, .f32⟩
  | 83 => ⟨S16x256x256, .f32⟩
  | 84 => ⟨S16x2304x256, .f32⟩
  | 85 => ⟨S16x2304x256, .bf16⟩
  | _ => ⟨S16x2304x2688, .bf16⟩

abbrev hbmTy (i : Nat) : BufTy := match i / 128 with
  | 0 => hbmTy0_0 i
  | 1 => hbmTy0_1 i
  | 2 => hbmTy0_2 i
  | _ => ⟨S16x2304x2688, .bf16⟩

abbrev bufTy : (tb : Table) → Fin (tcTables nBuf tb) → BufTy
  | .hbm, ⟨i, _⟩ => hbmTy i
  | _, _ => ⟨S16x2304x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v10 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst : Ref sig .tc := ⟨.hbm, 55, rfl⟩
abbrev main_v15 : Ref sig .tc := ⟨.hbm, 56, rfl⟩
abbrev main_v16 : Ref sig .tc := ⟨.hbm, 57, rfl⟩
abbrev main_cst_1 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_cst_2 : Ref sig .tc := ⟨.hbm, 62, rfl⟩
abbrev main_v20 : Ref sig .tc := ⟨.hbm, 63, rfl⟩
abbrev main_v21 : Ref sig .tc := ⟨.hbm, 64, rfl⟩
abbrev main_cst_3 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_4 : Ref sig .tc := ⟨.hbm, 93, rfl⟩
abbrev main_v49 : Ref sig .tc := ⟨.hbm, 94, rfl⟩
abbrev main_v50 : Ref sig .tc := ⟨.hbm, 95, rfl⟩
abbrev main_cst_5 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_6 : Ref sig .tc := ⟨.hbm, 100, rfl⟩
abbrev main_v54 : Ref sig .tc := ⟨.hbm, 101, rfl⟩
abbrev main_v55 : Ref sig .tc := ⟨.hbm, 102, rfl⟩
abbrev main_cst_7 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_8 : Ref sig .tc := ⟨.hbm, 134, rfl⟩
abbrev main_v86 : Ref sig .tc := ⟨.hbm, 135, rfl⟩
abbrev main_v87 : Ref sig .tc := ⟨.hbm, 136, rfl⟩
abbrev main_cst_9 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_10 : Ref sig .tc := ⟨.hbm, 141, rfl⟩
abbrev main_v91 : Ref sig .tc := ⟨.hbm, 142, rfl⟩
abbrev main_v92 : Ref sig .tc := ⟨.hbm, 143, rfl⟩
abbrev main_cst_11 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_12 : Ref sig .tc := ⟨.hbm, 172, rfl⟩
abbrev main_v120 : Ref sig .tc := ⟨.hbm, 173, rfl⟩
abbrev main_v121 : Ref sig .tc := ⟨.hbm, 174, rfl⟩
abbrev main_cst_13 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_cst_14 : Ref sig .tc := ⟨.hbm, 179, rfl⟩
abbrev main_v125 : Ref sig .tc := ⟨.hbm, 180, rfl⟩
abbrev main_v126 : Ref sig .tc := ⟨.hbm, 181, rfl⟩
abbrev main_cst_15 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_c_16 : Ref sig .tc := ⟨.hbm, 210, rfl⟩
abbrev main_call2_v0 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_c_17 : Ref sig .tc := ⟨.hbm, 218, rfl⟩
abbrev main_call3_v0 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_c_18 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_c_19 : Ref sig .tc := ⟨.hbm, 238, rfl⟩
abbrev main_v177 : Ref sig .tc := ⟨.hbm, 239, rfl⟩
abbrev main_v178 : Ref sig .tc := ⟨.hbm, 240, rfl⟩
abbrev main_c_20 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_c_21 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_c_22 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_c_23 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_cst_24 : Ref sig .tc := ⟨.hbm, 273, rfl⟩
abbrev main_v207 : Ref sig .tc := ⟨.hbm, 274, rfl⟩
abbrev main_v208 : Ref sig .tc := ⟨.hbm, 275, rfl⟩
abbrev main_cst_25 : Ref sig .tc := ⟨.hbm, 276, rfl⟩
abbrev main_call4_v0 : Ref sig .tc := ⟨.hbm, 277, rfl⟩
abbrev main_call4_v1 : Ref sig .tc := ⟨.hbm, 278, rfl⟩
abbrev main_call4_v2 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_cst_26 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_cst_27 : Ref sig .tc := ⟨.hbm, 289, rfl⟩
abbrev main_v217 : Ref sig .tc := ⟨.hbm, 290, rfl⟩
abbrev main_cst_28 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_cst_29 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_cst_30 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_cst_31 : Ref sig .tc := ⟨.hbm, 321, rfl⟩
abbrev main_v245 : Ref sig .tc := ⟨.hbm, 322, rfl⟩
abbrev main_cst_32 : Ref sig .tc := ⟨.hbm, 323, rfl⟩
abbrev main_v246 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_v250 : Ref sig .tc := ⟨.hbm, 328, rfl⟩
abbrev main_v251 : Ref sig .tc := ⟨.hbm, 329, rfl⟩
abbrev main_cst_33 : Ref sig .tc := ⟨.hbm, 330, rfl⟩
abbrev main_v252 : Ref sig .tc := ⟨.hbm, 331, rfl⟩
abbrev main_v253 : Ref sig .tc := ⟨.hbm, 332, rfl⟩
abbrev main_v254 : Ref sig .tc := ⟨.hbm, 333, rfl⟩
abbrev main_v255 : Ref sig .tc := ⟨.hbm, 334, rfl⟩
abbrev main_v256 : Ref sig .tc := ⟨.hbm, 335, rfl⟩
abbrev main_v257 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_v262 : Ref sig .tc := ⟨.hbm, 341, rfl⟩

abbrev nD : Nat := 1
abbrev τ : Topo := Topo.v7x

variable {F : FTy → Type} [FloatOps F]
-- ==== Up.lean ====
abbrev S16x2304x1024 : Shape := ⟨3, ![16, 2304, 1024]⟩
abbrev S1024 : Shape := ⟨1, ![1024]⟩
abbrev S16x6x1024 : Shape := ⟨3, ![16, 6, 1024]⟩
abbrev S1x6x1024 : Shape := ⟨3, ![1, 6, 1024]⟩
abbrev S1024x5632 : Shape := ⟨2, ![1024, 5632]⟩
abbrev S1x1024 : Shape := ⟨2, ![1, 1024]⟩
abbrev S16x2304x5632 : Shape := ⟨3, ![16, 2304, 5632]⟩
abbrev S1x768x1024 : Shape := ⟨3, ![1, 768, 1024]⟩
abbrev S1024x2816 : Shape := ⟨2, ![1024, 2816]⟩
abbrev S1x768x2816 : Shape := ⟨3, ![1, 768, 2816]⟩
abbrev S768x1024 : Shape := ⟨2, ![768, 1024]⟩
abbrev S768 : Shape := ⟨1, ![768]⟩
abbrev S768x1 : Shape := ⟨2, ![768, 1]⟩
abbrev S1x1x1024 : Shape := ⟨3, ![1, 1, 1024]⟩
abbrev S768x2816 : Shape := ⟨2, ![768, 2816]⟩

abbrev nBuf : Space → Nat
  | .hbm => 8
  | .vmem => 11
  | .smem => 0
  | _ => 0

abbrev bufTy : (tb : Table) → Fin (tcTables nBuf tb) → BufTy
  | .hbm, ⟨0, _⟩ => ⟨S16x2304x1024, .f32⟩
  | .hbm, ⟨1, _⟩ => ⟨S1024, .f32⟩
  | .hbm, ⟨2, _⟩ => ⟨S16x6x1024, .f32⟩
  | .hbm, ⟨3, _⟩ => ⟨S1x6x1024, .f32⟩
  | .hbm, ⟨4, _⟩ => ⟨S1024x5632, .f32⟩
  | .hbm, ⟨5, _⟩ => ⟨S1x1024, .f32⟩
  | .hbm, ⟨6, _⟩ => ⟨S1024x5632, .bf16⟩
  | .hbm, ⟨7, _⟩ => ⟨S16x2304x5632, .bf16⟩
  | .local _ .vmem, ⟨0, _⟩ => ⟨S1x768x1024, .f32⟩
  | .local _ .vmem, ⟨1, _⟩ => ⟨S1x768x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1x6x1024, .f32⟩
  | .local _ .vmem, ⟨6, _⟩ => ⟨S1024x2816, .bf16⟩
  | .local _ .vmem, ⟨7, _⟩ => ⟨S1024x2816, .bf16⟩
  | .local _ .vmem, ⟨8, _⟩ => ⟨S1x768x2816, .bf16⟩
  | .local _ .vmem, ⟨9, _⟩ => ⟨S1x768x2816, .bf16⟩
  | .local _ .vmem, ⟨10, _⟩ => ⟨S768x1024, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 3, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x768x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== UpRefIdeal.lean ====
abbrev S16x2304x1024 : Shape := ⟨3, ![16, 2304, 1024]⟩
abbrev S1024 : Shape := ⟨1, ![1024]⟩
abbrev S16x6x1024 : Shape := ⟨3, ![16, 6, 1024]⟩
abbrev S1x6x1024 : Shape := ⟨3, ![1, 6, 1024]⟩
abbrev S1024x5632 : Shape := ⟨2, ![1024, 5632]⟩
abbrev S16x1x1024 : Shape := ⟨3, ![16, 1, 1024]⟩
abbrev S1x1x1024 : Shape := ⟨3, ![1, 1, 1024]⟩
abbrev S16x256x1024 : Shape := ⟨3, ![16, 256, 1024]⟩
abbrev S_ : Shape := ⟨0, ![]⟩
abbrev S16x256 : Shape := ⟨2, ![16, 256]⟩
abbrev S16x256x1 : Shape := ⟨3, ![16, 256, 1]⟩
abbrev S16x2048x1024 : Shape := ⟨3, ![16, 2048, 1024]⟩
abbrev S16x2048 : Shape := ⟨2, ![16, 2048]⟩
abbrev S16x2048x1 : Shape := ⟨3, ![16, 2048, 1]⟩
abbrev S16x2304x5632 : Shape := ⟨3, ![16, 2304, 5632]⟩

abbrev nBuf : Space → Nat
  | .hbm => 60
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S1024, .f32⟩
  | .hbm, ⟨2, _⟩ => ⟨S16x6x1024, .f32⟩
  | .hbm, ⟨3, _⟩ => ⟨S1x6x1024, .f32⟩
  | .hbm, ⟨4, _⟩ => ⟨S1024x5632, .f32⟩
  | .hbm, ⟨5, _⟩ => ⟨S16x1x1024, .f32⟩
  | .hbm, ⟨6, _⟩ => ⟨S16x1x1024, .f32⟩
  | .hbm, ⟨7, _⟩ => ⟨S1x1x1024, .f32⟩
  | .hbm, ⟨8, _⟩ => ⟨S1x1x1024, .f32⟩
  | .hbm, ⟨9, _⟩ => ⟨S16x256x1024, .f32⟩
  | .hbm, ⟨10, _⟩ => ⟨S16x256x1024, .f32⟩
  | .hbm, ⟨11, _⟩ => ⟨S_, .f32⟩
  | .hbm, ⟨12, _⟩ => ⟨S16x256, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S16x256x1, .f32⟩
  | .hbm, ⟨21, _⟩ => ⟨S16x256x1024, .f32⟩
  | .hbm, ⟨22, _⟩ => ⟨S16x256x1024, .f32⟩
  | .hbm, ⟨23, _⟩ => ⟨S1x1x1024, .f32⟩
  | .hbm, ⟨24, _⟩ => ⟨S16x256x1024, .f32⟩
  | .hbm, ⟨25, _⟩ => ⟨S16x256x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S16x256x1024, .f32⟩
  | .hbm, ⟨30, _⟩ => ⟨S16x256x1024, .f32⟩
  | .hbm, ⟨31, _⟩ => ⟨S16x256x1024, .f32⟩
  | .hbm, ⟨32, _⟩ => ⟨S16x256x1024, .f32⟩
  | .hbm, ⟨33, _⟩ => ⟨S16x2048x1024, .f32⟩
  | .hbm, ⟨34, _⟩ => ⟨S16x2048x1024, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S16x2048x1, .f32⟩
  | .hbm, ⟨45, _⟩ => ⟨S16x2048x1024, .f32⟩
  | .hbm, ⟨46, _⟩ => ⟨S16x2048x1024, .f32⟩
  | .hbm, ⟨47, _⟩ => ⟨S1x1x1024, .f32⟩
  | .hbm, ⟨48, _⟩ => ⟨S16x2048x1024, .f32⟩
  | .hbm, ⟨49, _⟩ => ⟨S16x2048x1024, .f32⟩
  | .hbm, ⟨50, _⟩ => ⟨S_, .f32⟩
  | .hbm, ⟨51, _⟩ => ⟨S16x1x1024, .f32⟩
  | .hbm, ⟨52, _⟩ => ⟨S16x1x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S16x2304x1024, .f32⟩
  | .hbm, ⟨58, _⟩ => ⟨S16x2304x5632, .f32⟩
  | .hbm, ⟨59, _⟩ => ⟨S16x2304x5632, .bf16⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== In.lean ====
abbrev S16x2304x1024 : Shape := ⟨3, ![16, 2304, 1024]⟩
abbrev S1024 : Shape := ⟨1, ![1024]⟩
abbrev S16x6x1024 : Shape := ⟨3, ![16, 6, 1024]⟩
abbrev S1x6x1024 : Shape := ⟨3, ![1, 6, 1024]⟩
abbrev S1024x2688 : Shape := ⟨2, ![1024, 2688]⟩
abbrev S1x1024 : Shape := ⟨2, ![1, 1024]⟩
abbrev S16x2304x2688 : Shape := ⟨3, ![16, 2304, 2688]⟩
abbrev S1x768x1024 : Shape := ⟨3, ![1, 768, 1024]⟩
abbrev S1x768x2688 : Shape := ⟨3, ![1, 768, 2688]⟩
abbrev S768x1024 : Shape := ⟨2, ![768, 1024]⟩
abbrev S768 : Shape := ⟨1, ![768]⟩
abbrev S768x1 : Shape := ⟨2, ![768, 1]⟩
abbrev S1x1x1024 : Shape := ⟨3, ![1, 1, 1024]⟩
abbrev S768x2688 : Shape := ⟨2, ![768, 2688]⟩

abbrev nBuf : Space → Nat
  | .hbm => 8
  | .vmem => 10
  | .smem => 0
  | _ => 0

abbrev bufTy : (tb : Table) → Fin (tcTables nBuf tb) → BufTy
  | .hbm, ⟨0, _⟩ => ⟨S16x2304x1024, .f32⟩
  | .hbm, ⟨1, _⟩ => ⟨S1024, .f32⟩
  | .hbm, ⟨2, _⟩ => ⟨S16x6x1024, .f32⟩
  | .hbm, ⟨3, _⟩ => ⟨S1x6x1024, .f32⟩
  | .hbm, ⟨4, _⟩ => ⟨S1024x2688, .f32⟩
  | .hbm, ⟨5, _⟩ => ⟨S1x1024, .f32⟩
  | .hbm, ⟨6, _⟩ => ⟨S1024x2688, .bf16⟩
  | .hbm, ⟨7, _⟩ => ⟨S16x2304x2688, .bf16⟩
  | .local _ .vmem, ⟨0, _⟩ => ⟨S1x768x1024, .f32⟩
  | .local _ .vmem, ⟨1, _⟩ => ⟨S1x768x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1x6x1024, .f32⟩
  | .local _ .vmem, ⟨6, _⟩ => ⟨S1024x2688, .bf16⟩
  | .local _ .vmem, ⟨7, _⟩ => ⟨S1x768x2688, .bf16⟩
  | .local _ .vmem, ⟨8, _⟩ => ⟨S1x768x2688, .bf16⟩
  | .local _ .vmem, ⟨9, _⟩ => ⟨S768x1024, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![16, 3, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x2688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 2 → Memref sig .tc .vmem S1x768x2688 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== InRefIdeal.lean ====
abbrev S16x2304x1024 : Shape := ⟨3, ![16, 2304, 1024]⟩
abbrev S1024 : Shape := ⟨1, ![1024]⟩
abbrev S16x6x1024 : Shape := ⟨3, ![16, 6, 1024]⟩
abbrev S1x6x1024 : Shape := ⟨3, ![1, 6, 1024]⟩
abbrev S1024x2688 : Shape := ⟨2, ![1024, 2688]⟩
abbrev S16x1x1024 : Shape := ⟨3, ![16, 1, 1024]⟩
abbrev S1x1x1024 : Shape := ⟨3, ![1, 1, 1024]⟩
abbrev S16x256x1024 : Shape := ⟨3, ![16, 256, 1024]⟩
abbrev S_ : Shape := ⟨0, ![]⟩
abbrev S16x256 : Shape := ⟨2, ![16, 256]⟩
abbrev S16x256x1 : Shape := ⟨3, ![16, 256, 1]⟩
abbrev S16x2048x1024 : Shape := ⟨3, ![16, 2048, 1024]⟩
abbrev S16x2048 : Shape := ⟨2, ![16, 2048]⟩
abbrev S16x2048x1 : Shape := ⟨3, ![16, 2048, 1]⟩
abbrev S16x2304x2688 : Shape := ⟨3, ![16, 2304, 2688]⟩

abbrev nBuf : Space → Nat
  | .hbm => 60
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S1024, .f32⟩
  | .hbm, ⟨2, _⟩ => ⟨S16x6x1024, .f32⟩
  | .hbm, ⟨3, _⟩ => ⟨S1x6x1024, .f32⟩
  | .hbm, ⟨4, _⟩ => ⟨S1024x2688, .f32⟩
  | .hbm, ⟨5, _⟩ => ⟨S16x1x1024, .f32⟩
  | .hbm, ⟨6, _⟩ => ⟨S16x1x1024, .f32⟩
  | .hbm, ⟨7, _⟩ => ⟨S1x1x1024, .f32⟩
  | .hbm, ⟨8, _⟩ => ⟨S1x1x1024, .f32⟩
  | .hbm, ⟨9, _⟩ => ⟨S16x256x1024, .f32⟩
  | .hbm, ⟨10, _⟩ => ⟨S16x256x1024, .f32⟩
  | .hbm, ⟨11, _⟩ => ⟨S_, .f32⟩
  | .hbm, ⟨12, _⟩ => ⟨S16x256, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S16x256x1, .f32⟩
  | .hbm, ⟨21, _⟩ => ⟨S16x256x1024, .f32⟩
  | .hbm, ⟨22, _⟩ => ⟨S16x256x1024, .f32⟩
  | .hbm, ⟨23, _⟩ => ⟨S1x1x1024, .f32⟩
  | .hbm, ⟨24, _⟩ => ⟨S16x256x1024, .f32⟩
  | .hbm, ⟨25, _⟩ => ⟨S16x256x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S16x256x1024, .f32⟩
  | .hbm, ⟨30, _⟩ => ⟨S16x256x1024, .f32⟩
  | .hbm, ⟨31, _⟩ => ⟨S16x256x1024, .f32⟩
  | .hbm, ⟨32, _⟩ => ⟨S16x256x1024, .f32⟩
  | .hbm, ⟨33, _⟩ => ⟨S16x2048x1024, .f32⟩
  | .hbm, ⟨34, _⟩ => ⟨S16x2048x1024, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S16x2048x1, .f32⟩
  | .hbm, ⟨45, _⟩ => ⟨S16x2048x1024, .f32⟩
  | .hbm, ⟨46, _⟩ => ⟨S16x2048x1024, .f32⟩
  | .hbm, ⟨47, _⟩ => ⟨S1x1x1024, .f32⟩
  | .hbm, ⟨48, _⟩ => ⟨S16x2048x1024, .f32⟩
  | .hbm, ⟨49, _⟩ => ⟨S16x2048x1024, .f32⟩
  | .hbm, ⟨50, _⟩ => ⟨S_, .f32⟩
  | .hbm, ⟨51, _⟩ => ⟨S16x1x1024, .f32⟩
  | .hbm, ⟨52, _⟩ => ⟨S16x1x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S16x2304x1024, .f32⟩
  | .hbm, ⟨58, _⟩ => ⟨S16x2304x2688, .f32⟩
  | .hbm, ⟨59, _⟩ => ⟨S16x2304x2688, .bf16⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Down.lean ====
abbrev S16x2304x5632 : Shape := ⟨3, ![16, 2304, 5632]⟩
abbrev S3x2816 : Shape := ⟨2, ![3, 2816]⟩
abbrev S2816x1024 : Shape := ⟨2, ![2816, 1024]⟩
abbrev S1024 : Shape := ⟨1, ![1024]⟩
abbrev S16x6x1024 : Shape := ⟨3, ![16, 6, 1024]⟩
abbrev S1x6x1024 : Shape := ⟨3, ![1, 6, 1024]⟩
abbrev S16x2304x1024 : Shape := ⟨3, ![16, 2304, 1024]⟩
abbrev S1x1024 : Shape := ⟨2, ![1, 1024]⟩
abbrev S1x256x2816 : Shape := ⟨3, ![1, 256, 2816]⟩
abbrev S1x16x2816 : Shape := ⟨3, ![1, 16, 2816]⟩
abbrev S1x256x1024 : Shape := ⟨3, ![1, 256, 1024]⟩
abbrev S256x1 : Shape := ⟨2, ![256, 1]⟩
abbrev S256x2816 : Shape := ⟨2, ![256, 2816]⟩
abbrev S1x1x2816 : Shape := ⟨3, ![1, 1, 2816]⟩
abbrev S1x2816 : Shape := ⟨2, ![1, 2816]⟩
abbrev S256x1024 : Shape := ⟨2, ![256, 1024]⟩
abbrev S1x1x1024 : Shape := ⟨3, ![1, 1, 1024]⟩
abbrev S256 : Shape := ⟨1, ![256]⟩

abbrev nBuf : Space → Nat
  | .hbm => 10
  | .vmem => 18
  | .smem => 0
  | _ => 0

abbrev bufTy : (tb : Table) → Fin (tcTables nBuf tb) → BufTy
  | .hbm, ⟨0, _⟩ => ⟨S16x2304x5632, .bf16⟩
  | .hbm, ⟨1, _⟩ => ⟨S3x2816, .f32⟩
  | .hbm, ⟨2, _⟩ => ⟨S2816x1024, .f32⟩
  | .hbm, ⟨3, _⟩ => ⟨S1024, .f32⟩
  | .hbm, ⟨4, _⟩ => ⟨S16x6x1024, .f32⟩
  | .hbm, ⟨5, _⟩ => ⟨S1x6x1024, .f32⟩
  | .hbm, ⟨6, _⟩ => ⟨S16x2304x1024, .f32⟩
  | .hbm, ⟨7, _⟩ => ⟨S2816x1024, .bf16⟩
  | .hbm, ⟨8, _⟩ => ⟨S1x1024, .f32⟩
  | .hbm, ⟨9, _⟩ => ⟨S16x2304x1024, .f32⟩
  | .local _ .vmem, ⟨0, _⟩ => ⟨S1x256x2816, .bf16⟩
  | .local _ .vmem, ⟨1, _⟩ => ⟨S1x256x2816, .bf16⟩
  | .local _ .vmem, ⟨2, _⟩ => ⟨S1x256x2816, .bf16⟩
  | .local _ .vmem, ⟨3, _⟩ => ⟨S1x256x2816, .bf16⟩
  | .local _ .vmem, ⟨4, _⟩ => ⟨S1x16x2816, .bf16⟩
  | .local _ .vmem, ⟨5, _⟩ => ⟨S1x16x2816, .bf16⟩
  | .local _ .vmem, ⟨6, _⟩ => ⟨S1x16x2816, .bf16⟩
  | .local _ .vmem, ⟨7, _⟩ => ⟨S1x16x2816, .bf16⟩
  | .local _ .vmem, ⟨8, _⟩ => ⟨S3x2816, .f32⟩
  | .local _ .vmem, ⟨9, _⟩ => ⟨S2816x1024, .bf16⟩
  | .local _ .vmem, ⟨10, _⟩ => ⟨S1x1024, .f32⟩
  | .local _ .vmem, ⟨11, _⟩ => ⟨S1x6x1024, .f32⟩
  | .local _ .vmem, ⟨12, _⟩ => ⟨S1x6x1024, .f32⟩
  | .local _ .vmem, ⟨13, _⟩ => ⟨S1x6x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S16x2304x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c143_i32 : BitVec 32 := 143#32
  let v2 : BitVec 32 := Scalar.minsi v1 c143_i32
  let c0_i32 : BitVec 32 := 0#32
  let c0_i32_0 : BitVec 32 := 0#32
  ![arg0.toNat, v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x6x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== DownRefIdeal.lean ====
abbrev S16x2304x5632 : Shape := ⟨3, ![16, 2304, 5632]⟩
abbrev S3x2816 : Shape := ⟨2, ![3, 2816]⟩
abbrev S2816x1024 : Shape := ⟨2, ![2816, 1024]⟩
abbrev S1024 : Shape := ⟨1, ![1024]⟩
abbrev S16x6x1024 : Shape := ⟨3, ![16, 6, 1024]⟩
abbrev S1x6x1024 : Shape := ⟨3, ![1, 6, 1024]⟩
abbrev S16x2304x1024 : Shape := ⟨3, ![16, 2304, 1024]⟩
abbrev S16x256x5632 : Shape := ⟨3, ![16, 256, 5632]⟩
abbrev S16x256x1024 : Shape := ⟨3, ![16, 256, 1024]⟩
abbrev S1x1x1024 : Shape := ⟨3, ![1, 1, 1024]⟩
abbrev S16x256x2816 : Shape := ⟨3, ![16, 256, 2816]⟩
abbrev S_ : Shape := ⟨0, ![]⟩
abbrev S16x258x2816 : Shape := ⟨3, ![16, 258, 2816]⟩
abbrev S1x2816 : Shape := ⟨2, ![1, 2816]⟩
abbrev S2816 : Shape := ⟨1, ![2816]⟩
abbrev S1x1x2816 : Shape := ⟨3, ![1, 1, 2816]⟩
abbrev S16x256 : Shape := ⟨2, ![16, 256]⟩
abbrev S16x256x1 : Shape := ⟨3, ![16, 256, 1]⟩
abbrev S16x2048x5632 : Shape := ⟨3, ![16, 2048, 5632]⟩
abbrev S16x2048x1024 : Shape := ⟨3, ![16, 2048, 1024]⟩
abbrev S16x1x1024 : Shape := ⟨3, ![16, 1, 1024]⟩
abbrev S16x2048x2816 : Shape := ⟨3, ![16, 2048, 2816]⟩
abbrev S16x2050x2816 : Shape := ⟨3, ![16, 2050, 2816]⟩
abbrev S16x2048 : Shape := ⟨2, ![16, 2048]⟩
abbrev S16x2048x1 : Shape := ⟨3, ![16, 2048, 1]⟩

abbrev nBuf : Space → Nat
  | .hbm => 141
  | .vmem => 0
  | .smem => 0
  | _ => 0

abbrev hbmTy0_0 (i : Nat) : BufTy := match i % 128 with
  | 0 => ⟨S16x2304x5632, .bf16⟩
  | 1 => ⟨S3x2816, .f32⟩
  | 2 => ⟨S2816x1024, .f32⟩
  | 3 => ⟨S1024, .f32⟩
  | 4 => ⟨S16x6x1024, .f32⟩
  | 5 => ⟨S1x6x1024, .f32⟩
  | 6 => ⟨S16x2304x1024, .f32⟩
  | 7 => ⟨S16x2304x5632, .f32⟩
  | 8 => ⟨S16x256x5632, .f32⟩
  | 9 => ⟨S16x256x1024, .f32⟩
  | 10 => ⟨S1x1x1024, .f32⟩
  | 11 => ⟨S16x256x2816, .f32⟩
  | 12 => ⟨S16x256x2816, .f32⟩
  | 13 => ⟨S_, .i32⟩
  | 14 => ⟨S_, .f32⟩
  | 15 => ⟨S16x258x2816, .f32⟩
  | 16 => ⟨S16x256x2816, .f32⟩
  | 17 => ⟨S1x2816, .f32⟩
  | 18 => ⟨S2816, .f32⟩
  | 19 => ⟨S1x1x2816, .f32⟩
  | 20 => ⟨S16x256x2816, .f32⟩
  | 21 => ⟨S16x256x2816, .f32⟩
  | 22 => ⟨S16x256x2816, .f32⟩
  | 23 => ⟨S1x2816, .f32⟩
  | 24 => ⟨S2816, .f32⟩
  | 25 => ⟨S1x1x2816, .f32⟩
  | 26 => ⟨S16x256x2816, .f32⟩
  | 27 => ⟨S16x256x2816, .f32⟩
  | 28 => ⟨S16x256x2816, .f32⟩
  | 29 => ⟨S16x256x2816, .f32⟩
  | 30 => ⟨S1x2816, .f32⟩
  | 31 => ⟨S2816, .f32⟩
  | 32 => ⟨S1x1x2816, .f32⟩
  | 33 => ⟨S16x256x2816, .f32⟩
  | 34 => ⟨S16x256x2816, .f32⟩
  | 35 => ⟨S16x256x2816, .f32⟩
  | 36 => ⟨S16x256x2816, .f32⟩
  | 37 => ⟨S16x256x2816, .f32⟩
  | 38 => ⟨S_, .f32⟩
  | 39 => ⟨S16x256x2816, .f32⟩
  | 40 => ⟨S16x256x2816, .f32⟩
  | 41 => ⟨S16x256x2816, .f32⟩
  | 42 => ⟨S_, .f32⟩
  | 43 => ⟨S16x256x2816, .f32⟩
  | 44 => ⟨S16x256x2816, .f32⟩
  | 45 => ⟨S16x256x2816, .f32⟩
  | 46 => ⟨S_, .f32⟩
  | 47 => ⟨S16x256x2816, .f32⟩
  | 48 => ⟨S16x256x2816, .f32⟩
  | 49 => ⟨S_, .f32⟩
  | 50 => ⟨S16x256x2816, .f32⟩
  | 51 => ⟨S16x256x2816, .f32⟩
  | 52 => ⟨S16x256x2816, .f32⟩
  | 53 => ⟨S16x256x2816, .f32⟩
  | 54 => ⟨S16x256x1024, .f32⟩
  | 55 => ⟨S16x256x1024, .f32⟩
  | 56 => ⟨S_, .f32⟩
  | 57 => ⟨S16x256, .f32⟩
  | 58 => ⟨S16x256x1, .f32⟩
  | 59 => ⟨S_, .f32⟩
  | 60 => ⟨S16x256x1, .f32⟩
  | 61 => ⟨S16x256x1, .f32⟩
  | 62 => ⟨S_, .f32⟩
  | 63 => ⟨S16x256x1, .f32⟩
  | 64 => ⟨S16x256x1, .f32⟩
  | 65 => ⟨S16x256x1, .f32⟩
  | 66 => ⟨S16x256x1024, .f32⟩
  | 67 => ⟨S16x256x1024, .f32⟩
  | 68 => ⟨S1x1x1024, .f32⟩
  | 69 => ⟨S16x256x1024, .f32⟩
  | 70 => ⟨S16x256x1024, .f32⟩
  | 71 => ⟨S16x256x1024, .f32⟩
  | 72 => ⟨S16x256x1024, .f32⟩
  | 73 => ⟨S16x256x1024, .f32⟩
  | 74 => ⟨S16x2048x5632, .f32⟩
  | 75 => ⟨S16x2048x1024, .f32⟩
  | 76 => ⟨S16x1x1024, .f32⟩
  | 77 => ⟨S16x2048x2816, .f32⟩
  | 78 => ⟨S16x2048x2816, .f32⟩
  | 79 => ⟨S_, .i32⟩
  | 80 => ⟨S_, .f32⟩
  | 81 => ⟨S16x2050x2816, .f32⟩
  | 82 => ⟨S16x2048x2816, .f32⟩
  | 83 => ⟨S1x2816, .f32⟩
  | 84 => ⟨S2816, .f32⟩
  | 85 => ⟨S1x1x2816, .f32⟩
  | 86 => ⟨S16x2048x2816, .f32⟩
  | 87 => ⟨S16x2048x2816, .f32⟩
  | 88 => ⟨S16x2048x2816, .f32⟩
  | 89 => ⟨S1x2816, .f32⟩
  | 90 => ⟨S2816, .f32⟩
  | 91 => ⟨S1x1x2816, .f32⟩
  | 92 => ⟨S16x2048x2816, .f32⟩
  | 93 => ⟨S16x2048x2816, .f32⟩
  | 94 => ⟨S16x2048x2816, .f32⟩
  | 95 => ⟨S16x2048x2816, .f32⟩
  | 96 => ⟨S1x2816, .f32⟩
  | 97 => ⟨S2816, .f32⟩
  | 98 => ⟨S1x1x2816, .f32⟩
  | 99 => ⟨S16x2048x2816, .f32⟩
  | 100 => ⟨S16x2048x2816, .f32⟩
  | 101 => ⟨S16x2048x2816, .f32⟩
  | 102 => ⟨S16x2048x2816, .f32⟩
  | 103 => ⟨S16x2048x2816, .f32⟩
  | 104 => ⟨S_, .f32⟩
  | 105 => ⟨S16x2048x2816, .f32⟩
  | 106 => ⟨S16x2048x2816, .f32⟩
  | 107 => ⟨S16x2048x2816, .f32⟩
  | 108 => ⟨S_, .f32⟩
  | 109 => ⟨S16x2048x2816, .f32⟩
  | 110 => ⟨S16x2048x2816, .f32⟩
  | 111 => ⟨S16x2048x2816, .f32⟩
  | 112 => ⟨S_, .f32⟩
  | 113 => ⟨S16x2048x2816, .f32⟩
  | 114 => ⟨S16x2048x2816, .f32⟩
  | 115 => ⟨S_, .f32⟩
  | 116 => ⟨S16x2048x2816, .f32⟩
  | 117 => ⟨S16x2048x2816, .f32⟩
  | 118 => ⟨S16x2048x2816, .f32⟩
  | 119 => ⟨S16x2048x2816, .f32⟩
  | 120 => ⟨S16x2048x1024, .f32⟩
  | 121 => ⟨S16x2048x1024, .f32⟩
  | 122 => ⟨S_, .f32⟩
  | 123 => ⟨S16x2048, .f32⟩
  | 124 => ⟨S16x2048x1, .f32⟩
  | 125 => ⟨S_, .f32⟩
  | 126 => ⟨S16x2048x1, .f32⟩
  | 127 => ⟨S16x2048x1, .f32⟩
  | _ => ⟨S16x2304x5632, .bf16⟩

abbrev hbmTy0_1 (i : Nat) : BufTy := match i % 128 with
  | 0 => ⟨S_, .f32⟩
  | 1 => ⟨S16x2048x1, .f32⟩
  | 2 => ⟨S16x2048x1, .f32⟩
  | 3 => ⟨S16x2048x1, .f32⟩
  | 4 => ⟨S16x2048x1024, .f32⟩
  | 5 => ⟨S16x2048x1024, .f32⟩
  | 6 => ⟨S1x1x1024, .f32⟩
  | 7 => ⟨S16x2048x1024, .f32⟩
  | 8 => ⟨S16x2048x1024, .f32⟩
  | 9 => ⟨S16x2048x1024, .f32⟩
  | 10 => ⟨S16x2048x1024, .f32⟩
  | 11 => ⟨S16x2048x1024, .f32⟩
  | 12 => ⟨S16x2304x1024, .f32⟩
  | _ => ⟨S16x2304x5632, .bf16⟩

abbrev hbmTy (i : Nat) : BufTy := match i / 128 with
  | 0 => hbmTy0_0 i
  | 1 => hbmTy0_1 i
  | _ => ⟨S16x2304x5632, .bf16⟩

abbrev bufTy : (tb : Table) → Fin (tcTables nBuf tb) → BufTy
  | .hbm, ⟨i, _⟩ => hbmTy i
  | _, _ => ⟨S16x2304x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c_6 : Ref sig .tc := ⟨.hbm, 79, rfl⟩
abbrev main_call1_v0 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_7 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_8 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_9 : Ref sig .tc := ⟨.hbm, 112, rfl⟩
abbrev main_v92 : Ref sig .tc := ⟨.hbm, 113, rfl⟩
abbrev main_v93 : Ref sig .tc := ⟨.hbm, 114, rfl⟩
abbrev main_cst_10 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_11 : Ref sig .tc := ⟨.hbm, 122, rfl⟩
abbrev main_v100 : Ref sig .tc := ⟨.hbm, 123, rfl⟩
abbrev main_v101 : Ref sig .tc := ⟨.hbm, 124, rfl⟩
abbrev main_cst_12 : Ref sig .tc := ⟨.hbm, 125, rfl⟩
abbrev main_v102 : Ref sig .tc := ⟨.hbm, 126, rfl⟩
abbrev main_v103 : Ref sig .tc := ⟨.hbm, 127, rfl⟩
abbrev main_cst_13 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩

abbrev nD : Nat := 1
abbrev τ : Topo := Topo.v7x

variable {F : FTy → Type} [FloatOps F]
-- ==== Out.lean ====
abbrev S16x2304x2688 : Shape := ⟨3, ![16, 2304, 2688]⟩
abbrev S16x2304x256 : Shape := ⟨3, ![16, 2304, 256]⟩
abbrev S256 : Shape := ⟨1, ![256]⟩
abbrev S256x256 : Shape := ⟨2, ![256, 256]⟩
abbrev S1024x1024 : Shape := ⟨2, ![1024, 1024]⟩
abbrev S1024 : Shape := ⟨1, ![1024]⟩
abbrev S16x6x1024 : Shape := ⟨3, ![16, 6, 1024]⟩
abbrev S1x6x1024 : Shape := ⟨3, ![1, 6, 1024]⟩
abbrev S16x2304x1024 : Shape := ⟨3, ![16, 2304, 1024]⟩
abbrev S1x256 : Shape := ⟨2, ![1, 256]⟩
abbrev S1x1024 : Shape := ⟨2, ![1, 1024]⟩
abbrev S1x768x256 : Shape := ⟨3, ![1, 768, 256]⟩
abbrev S1x768x1024 : Shape := ⟨3, ![1, 768, 1024]⟩
abbrev S768x256 : Shape := ⟨2, ![768, 256]⟩
abbrev S256x1024 : Shape := ⟨2, ![256, 1024]⟩
abbrev S768x1024 : Shape := ⟨2, ![768, 1024]⟩
abbrev S768x1 : Shape := ⟨2, ![768, 1]⟩
abbrev S1x1x1024 : Shape := ⟨3, ![1, 1, 1024]⟩
abbrev S768 : Shape := ⟨1, ![768]⟩

abbrev nBuf : Space → Nat
  | .hbm => 18
  | .vmem => 23
  | .smem => 0
  | _ => 0

abbrev bufTy : (tb : Table) → Fin (tcTables nBuf tb) → BufTy
  | .hbm, ⟨0, _⟩ => ⟨S16x2304x2688, .bf16⟩
  | .hbm, ⟨1, _⟩ => ⟨S16x2304x256, .f32⟩
  | .hbm, ⟨2, _⟩ => ⟨S16x2304x256, .f32⟩
  | .hbm, ⟨3, _⟩ => ⟨S256, .f32⟩
  | .hbm, ⟨4, _⟩ => ⟨S256x256, .f32⟩
  | .hbm, ⟨5, _⟩ => ⟨S16x2304x256, .bf16⟩
  | .hbm, ⟨6, _⟩ => ⟨S16x2304x256, .bf16⟩
  | .hbm, ⟨7, _⟩ => ⟨S16x2304x256, .bf16⟩
  | .hbm, ⟨8, _⟩ => ⟨S1024x1024, .f32⟩
  | .hbm, ⟨9, _⟩ => ⟨S1024, .f32⟩
  | .hbm, ⟨10, _⟩ => ⟨S16x6x1024, .f32⟩
  | .hbm, ⟨11, _⟩ => ⟨S1x6x1024, .f32⟩
  | .hbm, ⟨12, _⟩ => ⟨S16x2304x1024, .f32⟩
  | .hbm, ⟨13, _⟩ => ⟨S1x256, .f32⟩
  | .hbm, ⟨14, _⟩ => ⟨S256x256, .bf16⟩
  | .hbm, ⟨15, _⟩ => ⟨S1024x1024, .bf16⟩
  | .hbm, ⟨16, _⟩ => ⟨S1x1024, .f32⟩
  | .hbm, ⟨17, _⟩ => ⟨S16x2304x1024, .f32⟩
  | .local _ .vmem, ⟨0, _⟩ => ⟨S1x768x256, .bf16⟩
  | .local _ .vmem, ⟨1, _⟩ => ⟨S1x768x256, .bf16⟩
  | .local _ .vmem, ⟨2, _⟩ => ⟨S1x768x256, .f32⟩
  | .local _ .vmem, ⟨3, _⟩ => ⟨S1x768x256, .f32⟩
  | .local _ .vmem, ⟨4, _⟩ => ⟨S1x768x256, .f32⟩
  | .local _ .vmem, ⟨5, _⟩ => ⟨S1x768x256, .f32⟩
  | .local _ .vmem, ⟨6, _⟩ => ⟨S1x256, .f32⟩
  | .local _ .vmem, ⟨7, _⟩ => ⟨S256x256, .bf16⟩
  | .local _ .vmem, ⟨8, _⟩ => ⟨S1x768x256, .bf16⟩
  | .local _ .vmem, ⟨9, _⟩ => ⟨S1x768x256, .bf16⟩
  | .local _ .vmem, ⟨10, _⟩ => ⟨S1x768x256, .bf16⟩
  | .local _ .vmem, ⟨11, _⟩ => ⟨S1x768x256, .bf16⟩
  | .local _ .vmem, ⟨12, _⟩ => ⟨S1x768x256, .bf16⟩
  | .local _ .vmem, ⟨13, _⟩ => ⟨S1x768x256, .bf16⟩
  | .local _ .vmem, ⟨14, _⟩ => ⟨S1024x1024, .bf16⟩
  | .local _ .vmem, ⟨15, _⟩ => ⟨S1x1024, .f32⟩
  | .local _ .vmem, ⟨16, _⟩ => ⟨S1x6x1024, .f32⟩
  | .local _ .vmem, ⟨17, _⟩ => ⟨S1x6x1024, .f32⟩
  | .local _ .vmem, ⟨18, _⟩ => ⟨S1x6x1024, .f32⟩
  | .local _ .vmem, ⟨19, _⟩ => ⟨S1x768x1024, .f32⟩
  | .local _ .vmem, ⟨20, _⟩ => ⟨S1x768x1024, .f32⟩
  | .local _ .vmem, ⟨21, _⟩ => ⟨S1x768x1024, .f32⟩
  | .local _ .vmem, ⟨22, _⟩ => ⟨S1x768x1024, .f32⟩
  | _, _ => ⟨S16x2304x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x768x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x768x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x768x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x6x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x6x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x768x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x768x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== OutRefIdeal.lean ====
abbrev S16x2304x2688 : Shape := ⟨3, ![16, 2304, 2688]⟩
abbrev S16x2304x256 : Shape := ⟨3, ![16, 2304, 256]⟩
abbrev S256 : Shape := ⟨1, ![256]⟩
abbrev S256x256 : Shape := ⟨2, ![256, 256]⟩
abbrev S1024x1024 : Shape := ⟨2, ![1024, 1024]⟩
abbrev S1024 : Shape := ⟨1, ![1024]⟩
abbrev S16x6x1024 : Shape := ⟨3, ![16, 6, 1024]⟩
abbrev S1x6x1024 : Shape := ⟨3, ![1, 6, 1024]⟩
abbrev S16x2304x1024 : Shape := ⟨3, ![16, 2304, 1024]⟩
abbrev S1x1x256 : Shape := ⟨3, ![1, 1, 256]⟩
abbrev S_ : Shape := ⟨0, ![]⟩
abbrev S16x2304 : Shape := ⟨2, ![16, 2304]⟩
abbrev S16x2304x1 : Shape := ⟨3, ![16, 2304, 1]⟩
abbrev S1x1x1024 : Shape := ⟨3, ![1, 1, 1024]⟩
abbrev S16x256x1024 : Shape := ⟨3, ![16, 256, 1024]⟩
abbrev S16x2048x1024 : Shape := ⟨3, ![16, 2048, 1024]⟩
abbrev S16x1x1024 : Shape := ⟨3, ![16, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S16x2304x2688, .bf16⟩
  | .hbm, ⟨1, _⟩ => ⟨S16x2304x256, .f32⟩
  | .hbm, ⟨2, _⟩ => ⟨S16x2304x256, .f32⟩
  | .hbm, ⟨3, _⟩ => ⟨S256, .f32⟩
  | .hbm, ⟨4, _⟩ => ⟨S256x256, .f32⟩
  | .hbm, ⟨5, _⟩ => ⟨S16x2304x256, .bf16⟩
  | .hbm, ⟨6, _⟩ => ⟨S16x2304x256, .bf16⟩
  | .hbm, ⟨7, _⟩ => ⟨S16x2304x256, .bf16⟩
  | .hbm, ⟨8, _⟩ => ⟨S1024x1024, .f32⟩
  | .hbm, ⟨9, _⟩ => ⟨S1024, .f32⟩
  | .hbm, ⟨10, _⟩ => ⟨S16x6x1024, .f32⟩
  | .hbm, ⟨11, _⟩ => ⟨S1x6x1024, .f32⟩
  | .hbm, ⟨12, _⟩ => ⟨S16x2304x1024, .f32⟩
  | .hbm, ⟨13, _⟩ => ⟨S16x2304x256, .bf16⟩
  | .hbm, ⟨14, _⟩ => ⟨S16x2304x256, .f32⟩
  | .hbm, ⟨15, _⟩ => ⟨S1x1x256, .f32⟩
  | .hbm, ⟨16, _⟩ => ⟨S16x2304x256, .f32⟩
  | .hbm, ⟨17, _⟩ => ⟨S16x2304x256, .f32⟩
  | .hbm, ⟨18, _⟩ => ⟨S16x2304x256, .f32⟩
  | .hbm, ⟨19, _⟩ => ⟨S16x2304x256, .f32⟩
  | .hbm, ⟨20, _⟩ => ⟨S16x2304x256, .f32⟩
  | .hbm, ⟨21, _⟩ => ⟨S16x2304x256, .f32⟩
  | .hbm, ⟨22, _⟩ => ⟨S_, .f32⟩
  | .hbm, ⟨23, _⟩ => ⟨S16x2304x256, .f32⟩
  | .hbm, ⟨24, _⟩ => ⟨S16x2304x256, .f32⟩
  | .hbm, ⟨25, _⟩ => ⟨S16x2304x256, .f32⟩
  | .hbm, ⟨26, _⟩ => ⟨S_, .f32⟩
  | .hbm, ⟨27, _⟩ => ⟨S16x2304x256, .f32⟩
  | .hbm, ⟨28, _⟩ => ⟨S16x2304x256, .f32⟩
  | .hbm, ⟨29, _⟩ => ⟨S16x2304x256, .f32⟩
  | .hbm, ⟨30, _⟩ => ⟨S_, .f32⟩
  | .hbm, ⟨31, _⟩ => ⟨S16x2304x256, .f32⟩
  | .hbm, ⟨32, _⟩ => ⟨S16x2304x256, .f32⟩
  | .hbm, ⟨33, _⟩ => ⟨S_, .f32⟩
  | .hbm, ⟨34, _⟩ => ⟨S16x2304x256, .f32⟩
  | .hbm, ⟨35, _⟩ => ⟨S16x2304x256, .f32⟩
  | .hbm, ⟨36, _⟩ => ⟨S16x2304x256, .f32⟩
  | .hbm, ⟨37, _⟩ => ⟨S16x2304x256, .f32⟩
  | .hbm, ⟨38, _⟩ => ⟨S16x2304x256, .f32⟩
  | .hbm, ⟨39, _⟩ => ⟨S16x2304x256, .f32⟩
  | .hbm, ⟨40, _⟩ => ⟨S_, .f32⟩
  | .hbm, ⟨41, _⟩ => ⟨S16x2304x256, .f32⟩
  | .hbm, ⟨42, _⟩ => ⟨S16x2304x256, .f32⟩
  | .hbm, ⟨43, _⟩ => ⟨S_, .f32⟩
  | .hbm, ⟨44, _⟩ => ⟨S16x2304x256, .f32⟩
  | .hbm, ⟨45, _⟩ => ⟨S16x2304x256, .f32⟩
  | .hbm, ⟨46, _⟩ => ⟨S16x2304x256, .f32⟩
  | .hbm, ⟨47, _⟩ => ⟨S16x2304x256, .f32⟩
  | .hbm, ⟨48, _⟩ => ⟨S16x2304x256, .f32⟩
  | .hbm, ⟨49, _⟩ => ⟨S16x2304x256, .f32⟩
  | .hbm, ⟨50, _⟩ => ⟨S16x2304x1024, .f32⟩
  | .hbm, ⟨51, _⟩ => ⟨S16x2304x1024, .f32⟩
  | .hbm, ⟨52, _⟩ => ⟨S16x2304x1024, .f32⟩
  | .hbm, ⟨53, _⟩ => ⟨S_, .f32⟩
  | .hbm, ⟨54, _⟩ => ⟨S16x2304, .f32⟩
  | .hbm, ⟨55, _⟩ => ⟨S16x2304x1, .f32⟩
  | .hbm, ⟨56, _⟩ => ⟨S_, .f32⟩
  | .hbm, ⟨57, _⟩ => ⟨S16x2304x1, .f32⟩
  | .hbm, ⟨58, _⟩ => ⟨S16x2304x1, .f32⟩
  | .hbm, ⟨59, _⟩ => ⟨S_, .f32⟩
  | .hbm, ⟨60, _⟩ => ⟨S16x2304x1, .f32⟩
  | .hbm, ⟨61, _⟩ => ⟨S16x2304x1, .f32⟩
  | .hbm, ⟨62, _⟩ => ⟨S16x2304x1, .f32⟩
  | .hbm, ⟨63, _⟩ => ⟨S16x2304x1024, .f32⟩
  | .hbm, ⟨64, _⟩ => ⟨S16x2304x1024, .f32⟩
  | .hbm, ⟨65, _⟩ => ⟨S1x1x1024, .f32⟩
  | .hbm, ⟨66, _⟩ => ⟨S16x2304x1024, .f32⟩
  | .hbm, ⟨67, _⟩ => ⟨S16x2304x1024, .f32⟩
  | .hbm, ⟨68, _⟩ => ⟨S16x256x1024, .f32⟩
  | .hbm, ⟨69, _⟩ => ⟨S1x1x1024, .f32⟩
  | .hbm, ⟨70, _⟩ => ⟨S16x256x1024, .f32⟩
  | .hbm, ⟨71, _⟩ => ⟨S16x256x1024, .f32⟩
  | .hbm, ⟨72, _⟩ => ⟨S16x256x1024, .f32⟩
  | .hbm, ⟨73, _⟩ => ⟨S16x256x1024, .f32⟩
  | .hbm, ⟨74, _⟩ => ⟨S16x2048x1024, .f32⟩
  | .hbm, ⟨75, _⟩ => ⟨S16x1x1024, .f32⟩
  | .hbm, ⟨76, _⟩ => ⟨S16x2048x1024, .f32⟩
  | .hbm, ⟨77, _⟩ => ⟨S16x2048x1024, .f32⟩
  | .hbm, ⟨78, _⟩ => ⟨S16x2048x1024, .f32⟩
  | .hbm, ⟨79, _⟩ => ⟨S16x2048x1024, .f32⟩
  | .hbm, ⟨80, _⟩ => ⟨S16x2304x1024, .f32⟩
  | _, _ => ⟨S16x2304x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Mod.lean ====
abbrev S24x1024 : Shape := ⟨2, ![24, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x24x6144 : Shape := ⟨3, ![4, 24, 6144]⟩
abbrev S1x1024x1536 : Shape := ⟨3, ![1, 1024, 1536]⟩
abbrev S1x1x1536 : Shape := ⟨3, ![1, 1, 1536]⟩
abbrev S1x24x1536 : Shape := ⟨3, ![1, 24, 1536]⟩
abbrev S1024x1536 : Shape := ⟨2, ![1024, 1536]⟩
abbrev S24x1536 : Shape := ⟨2, ![24, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x24x6144, .f32⟩
  | .local _ .vmem, ⟨0, _⟩ => ⟨S24x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x24x1536, .f32⟩
  | .local _ .vmem, ⟨6, _⟩ => ⟨S1x24x1536, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S24x1024 : Shape := ⟨2, ![24, 1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S24x6144 : Shape := ⟨2, ![24, 6144]⟩
abbrev S1x6144 : Shape := ⟨2, ![1, 6144]⟩
abbrev S6144 : Shape := ⟨1, ![6144]⟩
abbrev S1x24x6144 : Shape := ⟨3, ![1, 24, 6144]⟩
abbrev S4x24x6144 : Shape := ⟨3, ![4, 24, 6144]⟩

abbrev nBuf : Space → Nat
  | .hbm => 49
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S4x1024x6144, .f32⟩
  | .hbm, ⟨2, _⟩ => ⟨S4x6144, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S1x1024x6144, .f32⟩
  | .hbm, ⟨13, _⟩ => ⟨S1024x6144, .f32⟩
  | .hbm, ⟨14, _⟩ => ⟨S24x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S24x6144, .f32⟩
  | .hbm, ⟨19, _⟩ => ⟨S24x6144, .f32⟩
  | .hbm, ⟨20, _⟩ => ⟨S1x1024x6144, .f32⟩
  | .hbm, ⟨21, _⟩ => ⟨S1024x6144, .f32⟩
  | .hbm, ⟨22, _⟩ => ⟨S24x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S24x6144, .f32⟩
  | .hbm, ⟨27, _⟩ => ⟨S24x6144, .f32⟩
  | .hbm, ⟨28, _⟩ => ⟨S1x1024x6144, .f32⟩
  | .hbm, ⟨29, _⟩ => ⟨S1024x6144, .f32⟩
  | .hbm, ⟨30, _⟩ => ⟨S24x6144, .f32⟩
  | .hbm, ⟨31, _⟩ => ⟨S1x6144, .f32⟩
  | .hbm, ⟨32, _⟩ => ⟨S6144, .f32⟩
  | .hbm, ⟨33, _⟩ => ⟨S1x6144, .f32⟩
  | .hbm, ⟨34, _⟩ => ⟨S24x6144, .f32⟩
  | .hbm, ⟨35, _⟩ => ⟨S24x6144, .f32⟩
  | .hbm, ⟨36, _⟩ => ⟨S1x1024x6144, .f32⟩
  | .hbm, ⟨37, _⟩ => ⟨S1024x6144, .f32⟩
  | .hbm, ⟨38, _⟩ => ⟨S24x6144, .f32⟩
  | .hbm, ⟨39, _⟩ => ⟨S1x6144, .f32⟩
  | .hbm, ⟨40, _⟩ => ⟨S6144, .f32⟩
  | .hbm, ⟨41, _⟩ => ⟨S1x6144, .f32⟩
  | .hbm, ⟨42, _⟩ => ⟨S24x6144, .f32⟩
  | .hbm, ⟨43, _⟩ => ⟨S24x6144, .f32⟩
  | .hbm, ⟨44, _⟩ => ⟨S1x24x6144, .f32⟩
  | .hbm, ⟨45, _⟩ => ⟨S1x24x6144, .f32⟩
  | .hbm, ⟨46, _⟩ => ⟨S1x24x6144, .f32⟩
  | .hbm, ⟨47, _⟩ => ⟨S1x24x6144, .f32⟩
  | .hbm, ⟨48, _⟩ => ⟨S4x24x6144, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Proof.Frames.lean ====
/- The frames of the five dense calls: kernel, kernel over the extended reals and reference, each from its generated run. -/
module

public import proofs.«01_k».proof.Defs
public import proofs.«01_k».proof.Proof.Gen.Up.Frame
public import proofs.«01_k».proof.Proof.Gen.UpIdeal.Frame
public import proofs.«01_k».proof.Proof.Gen.UpRefIdeal.Run
public import proofs.«01_k».proof.Proof.Gen.In.Frame
public import proofs.«01_k».proof.Proof.Gen.InIdeal.Frame
public import proofs.«01_k».proof.Proof.Gen.InRefIdeal.Run
public import proofs.«01_k».proof.Proof.Gen.Down.Frame
public import proofs.«01_k».proof.Proof.Gen.DownIdeal.Frame
public import proofs.«01_k».proof.Proof.Gen.DownRefIdeal.Run
public import proofs.«01_k».proof.Proof.Gen.Out.Frame
public import proofs.«01_k».proof.Proof.Gen.OutIdeal.Frame
public import proofs.«01_k».proof.Proof.Gen.OutRefIdeal.Run
public import proofs.«01_k».proof.Proof.Gen.Mod.Frame
public import proofs.«01_k».proof.Proof.Gen.ModIdeal.Frame
public import proofs.«01_k».proof.Proof.Gen.ModRefIdeal.Run
public import Idealize.ShloMosaic.Lib.Claim

@[expose] public section

noncomputable section

namespace Cert.Proof

open Idealize.ShloMosaic Idealize.SL.Sem

/-- The modulated norm and up-projection runs at the hardware's arithmetic, its arguments end unchanged and its counters at zero. -/
theorem frame_Up : Cert.quiescent_Up := fun m ρ _ => Cert.Up.Gen.frame m ρ
/-- So does its kernel over the extended reals. -/
theorem frame_UpIdeal : Cert.quiescent_UpIdeal := fun m ρ _ => Cert.UpIdeal.Gen.frame m ρ
/-- So does its reference over the extended reals. -/
theorem frame_UpRefIdeal : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- The modulated norm and input projection runs at the hardware's arithmetic, its arguments end unchanged and its counters at zero. -/
theorem frame_In : Cert.quiescent_In := fun m ρ _ => Cert.In.Gen.frame m ρ
/-- So does its kernel over the extended reals. -/
theorem frame_InIdeal : Cert.quiescent_InIdeal := fun m ρ _ => Cert.InIdeal.Gen.frame m ρ
/-- So does its reference over the extended reals. -/
theorem frame_InRefIdeal : Cert.quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)

/-- The gated, convolved feed-forward's down-projection runs at the hardware's arithmetic, its arguments end unchanged and its counters at zero. -/
theorem frame_Down : Cert.quiescent_Down := fun m ρ _ => Cert.Down.Gen.frame m ρ
/-- So does its kernel over the extended reals. -/
theorem frame_DownIdeal : Cert.quiescent_DownIdeal := fun m ρ _ => Cert.DownIdeal.Gen.frame m ρ
/-- So does its reference over the extended reals. -/
theorem frame_DownRefIdeal : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The output projection runs at the hardware's arithmetic, its arguments end unchanged and its counters at zero. -/
theorem frame_Out : Cert.quiescent_Out := fun m ρ _ => Cert.Out.Gen.frame m ρ
/-- So does its kernel over the extended reals. -/
theorem frame_OutIdeal : Cert.quiescent_OutIdeal := fun m ρ _ => Cert.OutIdeal.Gen.frame m ρ
/-- So does its reference over the extended reals. -/
theorem frame_OutRefIdeal : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The modulation runs at the hardware's arithmetic, its arguments end unchanged and its counters at zero. -/
theorem frame_Mod : Cert.quiescent_Mod := fun m ρ _ => Cert.Mod.Gen.frame m ρ
/-- So does its kernel over the extended reals. -/
theorem frame_ModIdeal : Cert.quiescent_ModIdeal := fun m ρ _ => Cert.ModIdeal.Gen.frame m ρ
/-- So does its reference over the extended reals. -/
theorem frame_ModRefIdeal : Cert.quiescent_ModRefIdeal := fun m ρ _ =>
  (θ_run Cert.ModRefIdeal.defs _ _).mono (fun r h => ⟨fun c => (h c).2, sem_eq_zero_of_no_sems (by decide) r.2⟩)
    (Cert.ModRefIdeal.Value.run (F := Ideal) m ρ)

end Cert.Proof

end
-- ==== Proof.NormMod.lean ====
/- The projection of the modulated rows, written as one sum. Two calls of the layer compute it (`In`, `Up`), at different
   rows of the modulation tables and different widths: a row of `x` is divided by the root of its mean square, scaled by
   the gain, scaled and shifted by a modulation row (its own batch entry's for a latent row, the shared one for a context
   row), and multiplied by the weights. -/
module

public import Idealize.ShloMosaic.Lib.Pointwise
public import Idealize.ShloMosaic.Lib.WordCmp

@[expose] public section

noncomputable section

namespace Cert.Proof.NormMod

open Idealize.ShloMosaic

/-- Entry `d` of row `t` of batch entry `b`, over the root of the row's mean square (1024 entries, the mean moved by the
    small constant of both programs). -/
def rms (x : FVec Ideal ⟨3, ![16, 2304, 1024]⟩ .f32) (b : Fin 16) (t : Fin 2304) (d : Fin 1024) : EReal :=
  x (ix3 b t d) * Ideal.rsqrt (Ideal.div (∑ k : Fin 1024, x (ix3 b t k) * x (ix3 b t k)) (Ideal.ofBits .f32 0x44800000#32)
    + Ideal.ofBits .f32 0x358637BD#32)

/-- Row `r` of the modulation at row `t`: the shared table's for one of the first 256 rows, else the batch entry's. -/
def pick (ml : FVec Ideal ⟨3, ![16, 6, 1024]⟩ .f32) (mc : FVec Ideal ⟨3, ![1, 6, 1024]⟩ .f32) (r : Fin 6) (b : Fin 16)
    (t : Fin 2304) (d : Fin 1024) : EReal :=
  if (t : ℕ) < 256 then mc (ix3 0 r d) else ml (ix3 b r d)

/-- The modulated row: scaled by one plus modulation row `sc`, shifted by modulation row `sh`. -/
def row (sh sc : Fin 6) (x : FVec Ideal ⟨3, ![16, 2304, 1024]⟩ .f32) (g : FVec Ideal ⟨1, ![1024]⟩ .f32)
    (ml : FVec Ideal ⟨3, ![16, 6, 1024]⟩ .f32) (mc : FVec Ideal ⟨3, ![1, 6, 1024]⟩ .f32) (b : Fin 16) (t : Fin 2304)
    (d : Fin 1024) : EReal :=
  rms x b t d * g (ix1 d) * (1 + pick ml mc sc b t d) + pick ml mc sh b t d

/-- A choice by the printed comparison of a row number with 256: the tile's offset `768·j` plus the row `r` of the tile. -/
theorem select_row (j r : ℕ) (hj : j < 3) (hr : r < 768) (a b : EReal) :
    Scalar.select (IntOp.cmpi .slt (IntOp.addi (Scalar.muli (BitVec.ofNat 32 j) 768#32) (BitVec.ofNat 32 r)) 256#32) a b
      = if j * 768 + r < 256 then a else b := by
  have e : IntOp.addi (Scalar.muli (BitVec.ofNat 32 j) 768#32) (BitVec.ofNat 32 r) = BitVec.ofNat 32 (j * 768 + r) := by
    show BitVec.ofNat 32 j * BitVec.ofNat 32 768 + BitVec.ofNat 32 r = _
    rw [← BitVec.ofNat_mul, ← BitVec.ofNat_add]
  rw [e, WordCmp.cmpi_slt_ofNat (by omega) (by omega), WordCmp.select_ofBool]
  simp

/-- The printed row number of row `r` of tile `j`, tiles of `w` rows, as a word. -/
theorem row_word (j w r : ℕ) : IntOp.addi (Scalar.muli (BitVec.ofNat 32 j) (BitVec.ofNat 32 w)) (BitVec.ofNat 32 r)
    = BitVec.ofNat 32 (j * w + r) := by
  show BitVec.ofNat 32 j * BitVec.ofNat 32 w + BitVec.ofNat 32 r = _
  rw [← BitVec.ofNat_mul, ← BitVec.ofNat_add]

/-- A choice by the printed comparison of two small numbers for order. -/
theorem select_lt (n k : ℕ) (hn : n < 2304) (hk : k < 2304) (a b : EReal) :
    Scalar.select (IntOp.cmpi .slt (BitVec.ofNat 32 n) (BitVec.ofNat 32 k)) a b = if n < k then a else b := by
  rw [WordCmp.cmpi_slt_ofNat (by omega) (by omega), WordCmp.select_ofBool]
  simp

/-- A choice by the printed comparison of two small numbers for equality. -/
theorem select_eq (n k : ℕ) (hn : n < 2304) (hk : k < 2304) (a b : EReal) :
    Scalar.select (IntOp.cmpi .eq (BitVec.ofNat 32 n) (BitVec.ofNat 32 k)) a b = if n = k then a else b := by
  rw [WordCmp.cmpi_eq_ofNat (by omega) (by omega), WordCmp.select_ofBool]
  simp

/-- A choice by the printed comparison of a small number with either of two. -/
theorem select_or (n k l : ℕ) (hn : n < 2304) (hk : k < 2304) (hl : l < 2304) (a b : EReal) :
    Scalar.select (IntOp.ori (IntOp.cmpi .eq (BitVec.ofNat 32 n) (BitVec.ofNat 32 k))
      (IntOp.cmpi .eq (BitVec.ofNat 32 n) (BitVec.ofNat 32 l))) a b = if n = k ∨ n = l then a else b := by
  rw [WordCmp.cmpi_eq_ofNat (by omega) (by omega), WordCmp.cmpi_eq_ofNat (by omega) (by omega)]
  have o : ∀ p q : Bool, IntOp.ori (BitVec.ofBool p) (BitVec.ofBool q) = BitVec.ofBool (p || q) := by decide
  rw [o, WordCmp.select_ofBool]
  simp

/-- The Gaussian error unit in its form with the hyperbolic tangent. -/
def gelu (c : EReal) : EReal :=
  Ideal.ofBits .f32 0x3F000000#32 * c * (1 + Ideal.tanh (Ideal.ofBits .f32 0x3F4C422A#32
    * (c + Ideal.ofBits .f32 0x3D372713#32 * (c * c * c))))

/-- The activation as the reference writes it. -/
theorem gelu_eq (c : EReal) : c * (Ideal.ofBits .f32 0x3F000000#32 * (1 + Ideal.tanh (Ideal.ofBits .f32 0x3F4C422A#32
    * (c + Ideal.ofBits .f32 0x3D372713#32 * (c * c * c))))) = gelu c := by
  unfold gelu
  rw [← mul_assoc, mul_comm c]

end Cert.Proof.NormMod

end
-- ==== Proof.UpValue.lean ====
/- The up-projection: the two points of a row tile share its modulated rows, which the first leaves in a scratch; each multiplies
   them by one half of the weights' columns. The reference's result is the same sum. -/
module

public import proofs.«01_k».proof.Proof.Gen.UpIdeal.Value
public import proofs.«01_k».proof.Proof.Gen.UpRefIdeal.Read
public import proofs.«01_k».proof.Proof.NormMod
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.UpValue

open Cert.UpIdeal Cert.UpIdeal.Gen Cert.UpIdeal.Value Idealize.ShloMosaic Idealize.ShloMosaic.TcCoe Idealize.SL.Sem
open Cert.Proof.NormMod

variable (m : (ℓ : Loc nD τ sig) → Buf (Elt Ideal) ℓ)

/-- What the call computes: row `t` of batch entry `b`, modulated by rows 4 (scale) and 3 (shift), times the weights. -/
def out (x : FVec Ideal S16x2304x1024 .f32) (g : FVec Ideal S1024 .f32) (ml : FVec Ideal S16x6x1024 .f32)
    (mc : FVec Ideal S1x6x1024 .f32) (w : FVec Ideal S1024x5632 .f32) : FVec Ideal S16x2304x5632 .bf16 :=
  fun i => ∑ d : Fin 1024, row 3 4 x g ml mc (i 0) (i 1) d * w (ix2 d (i 2))

/-- The block indices of the windows at a point, and its middle coordinate, all points at once. -/
theorem idx : ∀ t : Fin cfg0.N, (grid0.coords t 1).val = t.val / 2 % 3 ∧ win0_0.index t = ![t.val / 6, t.val / 2 % 3, 0]
    ∧ win0_1.index t = ![0, 0] ∧ win0_2.index t = ![t.val / 6, 0, 0] ∧ win0_3.index t = ![0, 0, 0]
    ∧ win0_4.index t = ![0, t.val % 2]
    ∧ win0_5.index t = ![t.val / 6, t.val / 2 % 3, t.val % 2] :=
  (by decide +kernel : ∀ t : Fin grid0.N, _)

/-- The modulated rows of the tile that point `n` works on, which the scratch holds for both points of the tile. -/
def held (c : Dev nD) (n : ℕ) (hn : n < 96) (i : S768x1024.Idx) : EReal :=
  row 3 4 (m ((c : Thread nD τ).loc main_arg0)) (m ((c : Thread nD τ).loc main_arg1)) (m ((c : Thread nD τ).loc main_arg2))
    (m ((c : Thread nD τ).loc main_arg3)) ⟨n / 6, by omega⟩
    ⟨n / 2 % 3 * 768 + (i 0).val, by have h : (i 0).val < 768 := (i 0).isLt; omega⟩ (i 1)

/-- At an even point the body fills the scratch with its rows, modulated. -/
theorem fill (c : Dev nD) (t : Fin cfg0.N) (h0 : t.val % 2 = 0) :
    (outsAt0 m c t.val t.isLt).2 = held m c t.val t.isLt := by
  funext i
  idx_vars i
  rw [outsAt0_A m c t h0]
  frame_out
  unfold_payloads
  have hj : (grid0.coords t 1).val < 3 := (grid0.coords t 1).isLt
  have e := (idx t).1
  pointwise [held, row, rms, pick, select_row _ _ hj i0.isLt]
  blk_point [iblk, V, idx t]

/-- The result array after the run. -/
theorem final (c : Dev nD) : (dats m 0 c).arrAt 5 cfg0.N = out (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 5 _ (by decide +kernel) fun t hf y => ?_
  rw [after0_5]
  idx_vars y
  have hj : (grid0.coords t 1).val < 3 := (grid0.coords t 1).isLt
  by_cases h0 : t.val % 2 = 0
  · rw [outsAt0_A m c t h0]
    frame_out
    blk_simp
    unfold_payloads
    pointwise [out, row, rms, pick, select_row _ _ hj y1.isLt]
    blk_point [iblk, V, idx t]
  · rw [outsAt0_B m c t h0]
    have ht : t.val < 96 := t.isLt
    have hp : (t.val - 1) % 2 = 0 := by omega
    have e := fill m c ⟨t.val - 1, show t.val - 1 < 96 by omega⟩ hp
    dsimp only at e
    rw [e]
    frame_out
    blk_simp
    unfold_payloads
    simp only [read_unread_whole]
    pointwise [out, held, row, rms, pick]
    blk_point [iblk, V, idx t]
    rw [show (t.val - 1) / 2 = t.val / 2 by omega]

/-- The reference's result is the same sum. -/
theorem ref_eq (x : FVec Ideal S16x2304x1024 .f32) (g : FVec Ideal S1024 .f32) (ml : FVec Ideal S16x6x1024 .f32)
    (mc : FVec Ideal S1x6x1024 .f32) (w : FVec Ideal S1024x5632 .f32) :
    Cert.UpRefIdeal.Read.val_main_v46 (F := Ideal) x g ml mc w = out x g ml mc w := by
  funext i
  idx_vars i
  open Cert.UpRefIdeal.Read in
  pointwise [val_main_v46, val_main_v45, val_main_v44, val_main_v43, val_main_v42, val_main_v41, val_main_v40,
    val_main_v39, val_main_v38, val_main_v37, val_main_v36, val_main_v35, val_main_v34, val_main_v33, val_main_v32,
    val_main_v31, val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1, val_main_cst_2, val_main_cst_3, val_main_cst_4, val_main_cst_5,
    val_main_cst_6, out, row, rms, pick]
  refine Finset.sum_congr rfl fun d _ => ?_
  by_cases h : (i1 : ℕ) < 256
  · simp only [h, ↓reduceDIte, ↓reduceIte]
  · have e : (⟨256 + (↑i1 - 256), by omega⟩ : Fin 2304) = i1 := Fin.ext (by show 256 + ((i1 : ℕ) - 256) = i1; omega)
    simp only [h, ↓reduceDIte, ↓reduceIte, e]

end Cert.Proof.UpValue

end
-- ==== Proof.InValue.lean ====
/- The input projection: one grid point takes 768 rows of one batch entry, norms and modulates them and multiplies by all the
   weights. The result array is read off the points, and the reference's result is shown to be the same sum. -/
module

public import proofs.«01_k».proof.Proof.Gen.InIdeal.Value
public import proofs.«01_k».proof.Proof.Gen.InRefIdeal.Read
public import proofs.«01_k».proof.Proof.NormMod
public import Idealize.ShloMosaic.Lib.Pipeline.ValueKit
public import Idealize.ShloMosaic.Lib.Claim

@[expose] public section

set_option maxRecDepth 16384

noncomputable section

namespace Cert.Proof.InValue

open Cert.InIdeal Cert.InIdeal.Gen Cert.InIdeal.Value Idealize.ShloMosaic Idealize.ShloMosaic.TcCoe Idealize.SL.Sem
open Cert.Proof.NormMod

variable (m : (ℓ : Loc nD τ sig) → Buf (Elt Ideal) ℓ)

/-- What the call computes: row `t` of batch entry `b`, modulated by rows 1 (scale) and 0 (shift), times the weights. -/
def out (x : FVec Ideal S16x2304x1024 .f32) (g : FVec Ideal S1024 .f32) (ml : FVec Ideal S16x6x1024 .f32)
    (mc : FVec Ideal S1x6x1024 .f32) (w : FVec Ideal S1024x2688 .f32) : FVec Ideal S16x2304x2688 .bf16 :=
  fun i => ∑ d : Fin 1024, row 0 1 x g ml mc (i 0) (i 1) d * w (ix2 d (i 2))

/-- The block indices of the windows at a point, all points at once. -/
theorem idx : ∀ t : Fin cfg0.N, win0_0.index t = ![(grid0.coords t 0).val, (grid0.coords t 1).val, 0]
    ∧ win0_1.index t = ![0, 0] ∧ win0_2.index t = ![(grid0.coords t 0).val, 0, 0] ∧ win0_3.index t = ![0, 0, 0]
    ∧ win0_4.index t = ![0, 0]
    ∧ win0_5.index t = ![(grid0.coords t 0).val, (grid0.coords t 1).val, 0] :=
  (by decide +kernel : ∀ t : Fin grid0.N, _)

/-- The result array after the run. -/
theorem final (c : Dev nD) : (dats m 0 c).arrAt 5 cfg0.N = out (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 5 _ (by decide +kernel) fun t hf y => ?_
  rw [after0_5]
  unfold outsAt0
  frame_out
  idx_vars y
  blk_simp
  unfold_payloads
  have hj : (grid0.coords t 1).val < 3 := (grid0.coords t 1).isLt
  pointwise [out, row, rms, pick, select_row _ _ hj y1.isLt]
  blk_point [iblk, V, idx t]

/-- The reference's result is the same sum. -/
theorem ref_eq (x : FVec Ideal S16x2304x1024 .f32) (g : FVec Ideal S1024 .f32) (ml : FVec Ideal S16x6x1024 .f32)
    (mc : FVec Ideal S1x6x1024 .f32) (w : FVec Ideal S1024x2688 .f32) :
    Cert.InRefIdeal.Read.val_main_v46 (F := Ideal) x g ml mc w = out x g ml mc w := by
  funext i
  idx_vars i
  open Cert.InRefIdeal.Read in
  pointwise [val_main_v46, val_main_v45, val_main_v44, val_main_v43, val_main_v42, val_main_v41, val_main_v40,
    val_main_v39, val_main_v38, val_main_v37, val_main_v36, val_main_v35, val_main_v34, val_main_v33, val_main_v32,
    val_main_v31, val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1, val_main_cst_2, val_main_cst_3, val_main_cst_4, val_main_cst_5,
    val_main_cst_6, out, row, rms, pick]
  refine Finset.sum_congr rfl fun d _ => ?_
  by_cases h : (i1 : ℕ) < 256
  · simp only [h, ↓reduceDIte, ↓reduceIte]
  · have e : (⟨256 + (↑i1 - 256), by omega⟩ : Fin 2304) = i1 := Fin.ext (by show 256 + ((i1 : ℕ) - 256) = i1; omega)
    simp only [h, ↓reduceDIte, ↓reduceIte, e]

end Cert.Proof.InValue

end
-- ==== Proof.DownValue.lean ====
module

public import proofs.«01_k».proof.Proof.Gen.DownIdeal.Value
public import proofs.«01_k».proof.Proof.Gen.DownRefIdeal.Read
public import proofs.«01_k».proof.Proof.NormMod
public import Idealize.ShloMosaic.Lib.Pipeline.ValueKit
public import Idealize.ShloMosaic.Lib.Claim

@[expose] public section

set_option maxRecDepth 16384

noncomputable section

namespace Cert.Proof.DownValue

open Cert.DownIdeal Cert.DownIdeal.Gen Cert.DownIdeal.Value Idealize.ShloMosaic Idealize.ShloMosaic.TcCoe Idealize.SL.Sem
open Cert.Proof.NormMod

variable (m : (ℓ : Loc nD τ sig) → Buf (Elt Ideal) ℓ)

theorem idx : ∀ t : Fin cfg0.N, win0_0.index t = ![(grid0.coords t 0).val, (grid0.coords t 1).val, 0]
    ∧ win0_1.index t = ![(grid0.coords t 0).val, (grid0.coords t 1).val, 1]
    ∧ win0_2.index t = ![(grid0.coords t 0).val, (grid0.coords t 1).val * 16 - 1, 0]
    ∧ win0_3.index t = ![(grid0.coords t 0).val, min (((grid0.coords t 1).val + 1) * 16) 143, 0]
    ∧ win0_4.index t = ![0, 0] ∧ win0_5.index t = ![0, 0] ∧ win0_6.index t = ![0, 0]
    ∧ win0_7.index t = ![(grid0.coords t 0).val, 0, 0] ∧ win0_8.index t = ![0, 0, 0]
    ∧ win0_9.index t = ![(grid0.coords t 0).val, (grid0.coords t 1).val, 0]
    ∧ win0_10.index t = ![(grid0.coords t 0).val, (grid0.coords t 1).val, 0] :=
  (by decide +kernel : ∀ t : Fin grid0.N, _)

/-- The gate one row up, zero at the first row of the context and of the latent tokens. -/
def prev (gv : FVec Ideal S16x2304x5632 .bf16) (b : Fin 16) (t : Fin 2304) (d : Fin 2816) : EReal :=
  if (t : ℕ) = 0 ∨ (t : ℕ) = 256 then 0 else gv (ix3 b ⟨t - 1, by omega⟩ ⟨d, by omega⟩)

/-- The gate one row down, zero at the last row of the context and of the latent tokens. -/
def next (gv : FVec Ideal S16x2304x5632 .bf16) (b : Fin 16) (t : Fin 2304) (d : Fin 2816) : EReal :=
  if h : (t : ℕ) = 255 ∨ (t : ℕ) = 2303 then 0 else gv (ix3 b ⟨t + 1, by omega⟩ ⟨d, by omega⟩)

/-- The gate after the depth-wise convolution over three rows. -/
def conv (gv : FVec Ideal S16x2304x5632 .bf16) (cw : FVec Ideal S3x2816 .f32) (b : Fin 16) (t : Fin 2304)
    (d : Fin 2816) : EReal :=
  prev gv b t d * cw (ix2 0 d) + gv (ix3 b t ⟨d, by omega⟩) * cw (ix2 1 d) + next gv b t d * cw (ix2 2 d)

/-- The down-projection: the activated gate times the value half, against the weights. -/
def acc (gv : FVec Ideal S16x2304x5632 .bf16) (cw : FVec Ideal S3x2816 .f32) (wd : FVec Ideal S2816x1024 .f32)
    (b : Fin 16) (t : Fin 2304) (e : Fin 1024) : EReal :=
  ∑ d : Fin 2816, gelu (conv gv cw b t d) * gv (ix3 b t ⟨2816 + d, by omega⟩) * wd (ix2 d e)

/-- The result: the row of `x` plus the gated root-mean-square norm of the down-projection. -/
def out (gv : FVec Ideal S16x2304x5632 .bf16) (cw : FVec Ideal S3x2816 .f32) (wd : FVec Ideal S2816x1024 .f32)
    (g : FVec Ideal S1024 .f32) (ml : FVec Ideal S16x6x1024 .f32) (mc : FVec Ideal S1x6x1024 .f32)
    (x : FVec Ideal S16x2304x1024 .f32) : FVec Ideal S16x2304x1024 .f32 := fun i =>
  x i + pick ml mc 5 (i 0) (i 1) (i 2) * (acc gv cw wd (i 0) (i 1) (i 2)
    * Ideal.rsqrt (Ideal.div (∑ k : Fin 1024, acc gv cw wd (i 0) (i 1) k * acc gv cw wd (i 0) (i 1) k)
      (Ideal.ofBits .f32 0x44800000#32) + Ideal.ofBits .f32 0x358637BD#32) * g (ix1 (i 2)))

set_option maxHeartbeats 1600000 in
/-- The result array after the run. -/
theorem final (c : Dev nD) : (dats m 0 c).arrAt 10 cfg0.N = out (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  refine (dats m 0 c).arrAt_eq_of_covers 10 _ (by decide +kernel) fun t hf y => ?_
  rw [after0_10]
  frame_out
  idx_vars y
  blk_simp
  unfold_payloads
  have hj : (grid0.coords t 1).val < 9 := (grid0.coords t 1).isLt
  have hn : (grid0.coords t 1).val * 256 + y1.val < 2304 := by omega
  have he : ((View.whole main_v2).slice (win0_10.rect t)).emb (ix3 y0 y1 y2)
      = ix3 (⟨grid0.coords t 0, (grid0.coords t 0).isLt⟩ : Fin 16) (⟨(grid0.coords t 1).val * 256 + y1.val, hn⟩ : Fin 2304) y2 := by
    blk_ext [idx t]
  have hP : ∀ d : Fin 2816, (if (grid0.coords t 1).val * 256 + y1.val = 0 ∨ (grid0.coords t 1).val * 256 + y1.val = 256
        then (0 : EReal)
      else if y1.val = 0 then iblk m c 2 t (ix3 0 15 d) else iblk m c 0 t (ix3 0 ⟨(y1.val + 256 - 1) % 256, by omega⟩ d))
      = prev (m ((c : Thread nD τ).loc main_arg0)) ⟨grid0.coords t 0, (grid0.coords t 0).isLt⟩
        ⟨(grid0.coords t 1).val * 256 + y1.val, hn⟩ d := by
    intro d
    unfold prev
    split
    · rfl
    · split
      · blk_point [iblk, V, idx t]
      · blk_point [iblk, V, idx t]
  have hN : ∀ d : Fin 2816, (if (grid0.coords t 1).val * 256 + y1.val = 255 ∨ (grid0.coords t 1).val * 256 + y1.val = 2303
        then (0 : EReal)
      else if y1.val = 255 then iblk m c 3 t (ix3 0 0 d) else iblk m c 0 t (ix3 0 ⟨(y1.val + 256 - 255) % 256, by omega⟩ d))
      = next (m ((c : Thread nD τ).loc main_arg0)) ⟨grid0.coords t 0, (grid0.coords t 0).isLt⟩
        ⟨(grid0.coords t 1).val * 256 + y1.val, hn⟩ d := by
    intro d
    unfold next
    split
    · rfl
    · split
      · blk_point [iblk, V, idx t]
      · blk_point [iblk, V, idx t]
  rw [he]
  pointwise [row_word, select_lt _ 256 hn (by omega), select_eq _ 0 (show y1.val < 2304 by omega) (by omega),
    select_eq _ 255 (show y1.val < 2304 by omega) (by omega), select_or _ 0 256 hn (by omega) (by omega),
    select_or _ 255 2303 hn (by omega) (by omega), hP, hN, pick, out, acc, gelu, conv]
  blk_point [iblk, V, idx t]

/-- The whole number zero as a float is zero. -/
theorem sitofp_zero : (FloatOps.sitofp .f32 0#32 : Ideal .f32) = 0 := by
  show (((0#32).toInt : ℝ) : EReal) = 0
  simp

open Cert.DownRefIdeal.Read in
/-- The reference's convolution over the context tokens. -/
theorem conv_ctx (gv : FVec Ideal S16x2304x5632 .bf16) (cw : FVec Ideal S3x2816 .f32) (b : Fin 16) (t : Fin 256) (d : Fin 2816) :
    val_main_v26 (F := Ideal) gv cw (ix3 b t d) = conv gv cw b ⟨t, by omega⟩ d := by
  pointwise [val_main_v1, val_main_v0, val_main_v4, val_main_v26, val_main_v25, val_main_v24, val_main_v23, val_main_v22,
      val_main_v21, val_main_v20, val_main_v19, val_main_v18, val_main_v17, val_main_v16, val_main_v15, val_main_v14,
      val_main_v13, val_main_v12, val_main_v11, val_main_v10, val_main_v9, val_main_v8, val_main_v7, val_main_v6,
      val_main_c, val_main_call0_v0,
      conv, prev, next]
  simp only [sitofp_zero]
  refine congrArg₂ (· + ·) (congrArg₂ (· + ·) (congrArg₂ (· * ·) ?_ rfl) rfl) (congrArg₂ (· * ·) ?_ rfl)
  · by_cases h : (t : ℕ) = 0
    · simp only [show ¬(1 ≤ (t : ℕ) ∧ (t : ℕ) - 1 < 256) by omega, show (t : ℕ) = 0 ∨ (t : ℕ) = 256 by omega,
        and_self, ↓reduceDIte, ↓reduceIte]
    · simp only [show 1 ≤ (t : ℕ) ∧ (t : ℕ) - 1 < 256 by omega, show ¬((t : ℕ) = 0 ∨ (t : ℕ) = 256) by omega,
        and_self, ↓reduceDIte, ↓reduceIte]
  · by_cases h : (t : ℕ) = 255
    · simp only [show ¬(1 ≤ 2 + (t : ℕ) ∧ 2 + (t : ℕ) - 1 < 256) by omega, show (t : ℕ) = 255 ∨ (t : ℕ) = 2303 by omega,
        and_self, ↓reduceDIte, ↓reduceIte]
    · simp only [show 1 ≤ 2 + (t : ℕ) ∧ 2 + (t : ℕ) - 1 < 256 by omega, show ¬((t : ℕ) = 255 ∨ (t : ℕ) = 2303) by omega,
        and_self, ↓reduceDIte, ↓reduceIte]
      simp only [show 2 + (t : ℕ) - 1 = t + 1 by omega]

open Cert.DownRefIdeal.Read in
/-- The reference's convolution over the latent tokens. -/
theorem conv_lat (gv : FVec Ideal S16x2304x5632 .bf16) (cw : FVec Ideal S3x2816 .f32) (b : Fin 16) (t : Fin 2048) (d : Fin 2816) :
    val_main_v83 (F := Ideal) gv cw (ix3 b t d) = conv gv cw b ⟨256 + t, by omega⟩ d := by
  pointwise [val_main_v0, val_main_v58, val_main_v61, val_main_v83, val_main_v82, val_main_v81, val_main_v80, val_main_v79,
      val_main_v78, val_main_v77, val_main_v76, val_main_v75, val_main_v74, val_main_v73, val_main_v72, val_main_v71,
      val_main_v70, val_main_v69, val_main_v68, val_main_v67, val_main_v66, val_main_v65, val_main_v64, val_main_v63,
      val_main_c_6, val_main_call1_v0,
      conv, prev, next]
  simp only [sitofp_zero]
  refine congrArg₂ (· + ·) (congrArg₂ (· + ·) (congrArg₂ (· * ·) ?_ rfl) rfl) (congrArg₂ (· * ·) ?_ rfl)
  · by_cases h : (t : ℕ) = 0
    · simp only [show ¬(1 ≤ (t : ℕ) ∧ (t : ℕ) - 1 < 2048) by omega, show 256 + (t : ℕ) = 0 ∨ 256 + (t : ℕ) = 256 by omega,
        and_self, ↓reduceDIte, ↓reduceIte]
    · simp only [show 1 ≤ (t : ℕ) ∧ (t : ℕ) - 1 < 2048 by omega, show ¬(256 + (t : ℕ) = 0 ∨ 256 + (t : ℕ) = 256) by omega,
        and_self, ↓reduceDIte, ↓reduceIte]
      simp only [show 256 + ((t : ℕ) - 1) = 256 + t - 1 by omega]
  · by_cases h : (t : ℕ) = 2047
    · simp only [show ¬(1 ≤ 2 + (t : ℕ) ∧ 2 + (t : ℕ) - 1 < 2048) by omega, show 256 + (t : ℕ) = 255 ∨ 256 + (t : ℕ) = 2303 by omega,
        and_self, ↓reduceDIte, ↓reduceIte]
    · simp only [show 1 ≤ 2 + (t : ℕ) ∧ 2 + (t : ℕ) - 1 < 2048 by omega, show ¬(256 + (t : ℕ) = 255 ∨ 256 + (t : ℕ) = 2303) by omega,
        and_self, ↓reduceDIte, ↓reduceIte]
      simp only [show 256 + (2 + (t : ℕ) - 1) = 256 + t + 1 by omega]

open Cert.DownRefIdeal.Read in
/-- The reference's down-projection of the context tokens. -/
theorem acc_ctx (gv : FVec Ideal S16x2304x5632 .bf16) (cw : FVec Ideal S3x2816 .f32) (wd : FVec Ideal S2816x1024 .f32) (b : Fin 16) (t : Fin 256) (e : Fin 1024) :
    val_main_v41 (F := Ideal) gv cw wd (ix3 b t e) = acc gv cw wd b ⟨t, by omega⟩ e := by
  pointwise [val_main_v41, val_main_v40, val_main_v39, val_main_v38, val_main_v37, val_main_v36, val_main_v35, val_main_v34,
      val_main_v33, val_main_v32, val_main_v31, val_main_v30, val_main_v29, val_main_v28, val_main_v27, val_main_v5,
      val_main_v1, val_main_v0, val_main_cst, val_main_cst_0, val_main_cst_1, val_main_cst_2,
      conv_ctx, gelu_eq, acc]

open Cert.DownRefIdeal.Read in
/-- The reference's down-projection of the latent tokens. -/
theorem acc_lat (gv : FVec Ideal S16x2304x5632 .bf16) (cw : FVec Ideal S3x2816 .f32) (wd : FVec Ideal S2816x1024 .f32) (b : Fin 16) (t : Fin 2048) (e : Fin 1024) :
    val_main_v98 (F := Ideal) gv cw wd (ix3 b t e) = acc gv cw wd b ⟨256 + t, by omega⟩ e := by
  pointwise [val_main_v98, val_main_v97, val_main_v96, val_main_v95, val_main_v94, val_main_v93, val_main_v92, val_main_v91,
      val_main_v90, val_main_v89, val_main_v88, val_main_v87, val_main_v86, val_main_v85, val_main_v84, val_main_v62,
      val_main_v58, val_main_v0, val_main_cst_7, val_main_cst_8, val_main_cst_9, val_main_cst_10,
      conv_lat, gelu_eq, acc]

set_option maxHeartbeats 1600000 in
open Cert.DownRefIdeal.Read in
/-- The reference's result is the same array. -/
theorem ref_eq (gv : FVec Ideal S16x2304x5632 .bf16) (cw : FVec Ideal S3x2816 .f32) (wd : FVec Ideal S2816x1024 .f32)
    (g : FVec Ideal S1024 .f32) (ml : FVec Ideal S16x6x1024 .f32) (mc : FVec Ideal S1x6x1024 .f32)
    (x : FVec Ideal S16x2304x1024 .f32) : val_main_v115 (F := Ideal) gv cw wd g ml mc x = out gv cw wd g ml mc x := by
  funext i
  idx_vars i
  pointwise [val_main_v57, val_main_v56, val_main_v55, val_main_v54, val_main_v53, val_main_v52, val_main_v51, val_main_v50,
      val_main_v49, val_main_v48, val_main_v47, val_main_v46, val_main_v45, val_main_v44, val_main_v43, val_main_v42,
      val_main_v3, val_main_v2, val_main_v60, val_main_v59, val_main_v115, val_main_v114, val_main_v113, val_main_v112,
      val_main_v111, val_main_v110, val_main_v109, val_main_v108, val_main_v107, val_main_v106, val_main_v105,
      val_main_v104, val_main_v103, val_main_v102, val_main_v101, val_main_v100, val_main_v99, val_main_cst_3,
      val_main_cst_4, val_main_cst_5, val_main_cst_11, val_main_cst_12, val_main_cst_13,
      acc_ctx, acc_lat, out, pick]
  by_cases h : (i1 : ℕ) < 256
  · simp only [h, ↓reduceDIte, ↓reduceIte]
  · have e : (⟨256 + (↑i1 - 256), by omega⟩ : Fin 2304) = i1 := Fin.ext (by show 256 + ((i1 : ℕ) - 256) = i1; omega)
    simp only [h, ↓reduceDIte, ↓reduceIte, e]

end Cert.Proof.DownValue

end
-- ==== Proof.OutValue.lean ====
module

public import proofs.«01_k».proof.Proof.Gen.OutIdeal.Value
public import proofs.«01_k».proof.Proof.Gen.OutRefIdeal.Read
public import proofs.«01_k».proof.Proof.NormMod
public import Idealize.ShloMosaic.Lib.Pipeline.ValueKit
public import Idealize.ShloMosaic.Lib.Claim

@[expose] public section

set_option maxRecDepth 16384

noncomputable section

namespace Cert.Proof.OutValue

open Cert.OutIdeal Cert.OutIdeal.Gen Cert.OutIdeal.Value Idealize.ShloMosaic Idealize.ShloMosaic.TcCoe Idealize.SL.Sem
open Cert.Proof.NormMod

variable (m : (ℓ : Loc nD τ sig) → Buf (Elt Ideal) ℓ)

/-- The block indices of the windows at a point, all points at once. -/
theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![0, 0] ∧ win0_4.index t = ![0, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0]
    ∧ win0_8.index t = ![0, 0] ∧ win0_9.index t = ![0, 0]
    ∧ win0_10.index t = ![(grid0.coords t 0).val, 0, 0] ∧ win0_11.index t = ![0, 0, 0]
    ∧ win0_12.index t = ![(grid0.coords t 0).val, (grid0.coords t 1).val, 0]
    ∧ win0_13.index t = ![(grid0.coords t 0).val, (grid0.coords t 1).val, 0] :=
  (by decide +kernel : ∀ t : Fin grid0.N, _)

/-- The activated sum of the skip term and the two scans. -/
def act (p : FVec Ideal S16x2304x2688 .bf16) (yf yr : FVec Ideal S16x2304x256 .f32) (dd : FVec Ideal S256 .f32)
    (b : Fin 16) (t : Fin 2304) (d : Fin 256) : EReal :=
  gelu (dd (ix1 d) * p (ix3 b t ⟨d, by omega⟩) + yf (ix3 b t d) + yr (ix3 b t d))

/-- The gated activation: times the logistic function of its product with the gate weights. -/
def glu (p : FVec Ideal S16x2304x2688 .bf16) (yf yr : FVec Ideal S16x2304x256 .f32) (dd : FVec Ideal S256 .f32)
    (wg : FVec Ideal S256x256 .f32) (b : Fin 16) (t : Fin 2304) (d : Fin 256) : EReal :=
  act p yf yr dd b t d * Ideal.div 1 (1 + Ideal.exp (0 - ∑ k : Fin 256, act p yf yr dd b t k * wg (ix2 k d)))

/-- The four mixers' outputs against the four row blocks of the output weights. -/
def acc (a : Fin 16 → Fin 2304 → Fin 256 → EReal) (na gla swa : FVec Ideal S16x2304x256 .bf16)
    (wo : FVec Ideal S1024x1024 .f32) (b : Fin 16) (t : Fin 2304) (e : Fin 1024) : EReal :=
  (∑ k : Fin 256, a b t k * wo (ix2 ⟨k, by omega⟩ e)) + (∑ k : Fin 256, na (ix3 b t k) * wo (ix2 ⟨256 + k, by omega⟩ e))
    + (∑ k : Fin 256, gla (ix3 b t k) * wo (ix2 ⟨512 + k, by omega⟩ e))
    + ∑ k : Fin 256, swa (ix3 b t k) * wo (ix2 ⟨768 + k, by omega⟩ e)

/-- The result: the row of `x` plus the gated root-mean-square norm of the projection. -/
def out (p : FVec Ideal S16x2304x2688 .bf16) (yf yr : FVec Ideal S16x2304x256 .f32) (dd : FVec Ideal S256 .f32)
    (wg : FVec Ideal S256x256 .f32) (na gla swa : FVec Ideal S16x2304x256 .bf16) (wo : FVec Ideal S1024x1024 .f32)
    (g : FVec Ideal S1024 .f32) (ml : FVec Ideal S16x6x1024 .f32) (mc : FVec Ideal S1x6x1024 .f32)
    (x : FVec Ideal S16x2304x1024 .f32) : FVec Ideal S16x2304x1024 .f32 := fun i =>
  x i + pick ml mc 2 (i 0) (i 1) (i 2) * (acc (glu p yf yr dd wg) na gla swa wo (i 0) (i 1) (i 2)
    * Ideal.rsqrt (Ideal.div (∑ k : Fin 1024, acc (glu p yf yr dd wg) na gla swa wo (i 0) (i 1) k
        * acc (glu p yf yr dd wg) na gla swa wo (i 0) (i 1) k)
      (Ideal.ofBits .f32 0x44800000#32) + Ideal.ofBits .f32 0x358637BD#32) * g (ix1 (i 2)))

/-- The first window's block, whose array's last axis is no multiple of the block's, read at an index. -/
theorem p_at (c : Dev nD) (t : Fin cfg0.N) (r : Fin 768) (d : Fin 256) : X0_0 m c t (ix3 0 r d)
    = m ((c : Thread nD τ).loc main_arg0) (ix3 ⟨grid0.coords t 0, (grid0.coords t 0).isLt⟩
      ⟨(grid0.coords t 1).val * 768 + r.val, by have h : (grid0.coords t 1).val < 3 := (grid0.coords t 1).isLt; omega⟩
      ⟨d, by omega⟩) := by
  unfold X0_0 Pipeline.Window.fill
  rw [dif_pos (moved0_0 t _)]
  blk_point [iblk, V, idx t]

set_option maxHeartbeats 1600000 in
/-- The result array after the run. -/
theorem final (c : Dev nD) : (dats m 0 c).arrAt 13 cfg0.N = out (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11))
    (m ((c : Thread nD τ).loc main_arg12)) := by
  refine (dats m 0 c).arrAt_eq_of_covers 13 _ (by decide +kernel) fun t hf y => ?_
  rw [after0_13]
  unfold outsAt0
  frame_out
  idx_vars y
  blk_simp
  unfold_payloads
  have hj : (grid0.coords t 1).val < 3 := (grid0.coords t 1).isLt
  pointwise [out, acc, glu, act, gelu, pick, select_row _ _ hj y1.isLt, p_at]
  blk_point [iblk, V, idx t]

/-- Zero minus a number is its negative. -/
theorem neg_form (x : EReal) : -x = 0 - x := by rw [sub_eq_add_neg, zero_add]

/-- A sum over 1024 indices, in four parts of 256. -/
theorem sum_quarters (f : Fin 1024 → EReal) : ∑ k, f k = (∑ k : Fin 256, f ⟨k, by omega⟩)
    + (∑ k : Fin 256, f ⟨256 + k, by omega⟩) + (∑ k : Fin 256, f ⟨512 + k, by omega⟩)
    + ∑ k : Fin 256, f ⟨768 + k, by omega⟩ := by
  rw [Fin.sum_univ_add (a := 768) (b := 256) f, Fin.sum_univ_add (a := 512) (b := 256),
    Fin.sum_univ_add (a := 256) (b := 256)]
  rfl

open Cert.OutRefIdeal.Read in
/-- The reference's activation. -/
theorem act_eq (p : FVec Ideal S16x2304x2688 .bf16) (yf yr : FVec Ideal S16x2304x256 .f32) (dd : FVec Ideal S256 .f32)
    (b : Fin 16) (t : Fin 2304) (d : Fin 256) : val_main_v19 (F := Ideal) p yf yr dd (ix3 b t d) = act p yf yr dd b t d := by
  pointwise [val_main_v19, val_main_v18, val_main_v17, val_main_v16, val_main_v15, val_main_v14, val_main_v13, val_main_v12,
      val_main_v11, val_main_v10, val_main_v9, val_main_v8, val_main_v7, val_main_v6, val_main_v5, val_main_v4,
      val_main_v3, val_main_v2, val_main_v1, val_main_v0, val_main_cst, val_main_cst_0, val_main_cst_1, val_main_cst_2,
      gelu_eq, act]

open Cert.OutRefIdeal.Read in
/-- The reference's gated activation. -/
theorem glu_eq (p : FVec Ideal S16x2304x2688 .bf16) (yf yr : FVec Ideal S16x2304x256 .f32) (dd : FVec Ideal S256 .f32)
    (wg : FVec Ideal S256x256 .f32) (b : Fin 16) (t : Fin 2304) (d : Fin 256) :
    val_main_v27 (F := Ideal) p yf yr dd wg (ix3 b t d) = glu p yf yr dd wg b t d := by
  pointwise [val_main_v27, val_main_v26, val_main_v25, val_main_v24, val_main_v23, val_main_v22, val_main_v21, val_main_v20,
      val_main_cst_3, val_main_cst_4, act_eq, glu, neg_form]

open Cert.OutRefIdeal.Read in
/-- The reference's projection: one product over the four outputs side by side. -/
theorem acc_eq (p : FVec Ideal S16x2304x2688 .bf16) (yf yr : FVec Ideal S16x2304x256 .f32) (dd : FVec Ideal S256 .f32)
    (wg : FVec Ideal S256x256 .f32) (na gla swa : FVec Ideal S16x2304x256 .bf16) (wo : FVec Ideal S1024x1024 .f32)
    (b : Fin 16) (t : Fin 2304) (e : Fin 1024) : val_main_v32 (F := Ideal) p yf yr dd wg na gla swa wo (ix3 b t e)
      = acc (glu p yf yr dd wg) na gla swa wo b t e := by
  pointwise [val_main_v32, val_main_v31, val_main_v30, val_main_v29, val_main_v28, glu_eq, acc]
  rw [sum_quarters]
  refine congrArg₂ (· + ·) (congrArg₂ (· + ·) (congrArg₂ (· + ·) ?_ ?_) ?_) ?_ <;>
    refine Finset.sum_congr rfl fun k _ => ?_
  · simp only [k.isLt, ↓reduceDIte]
  · simp only [show ¬ 256 + (k : ℕ) < 256 by omega, show 256 + (k : ℕ) - 256 = k by omega, k.isLt, ↓reduceDIte]
  · simp only [show ¬ 512 + (k : ℕ) < 256 by omega, show ¬ 512 + (k : ℕ) - 256 < 256 by omega,
      show 512 + (k : ℕ) - 256 - 256 = k by omega, k.isLt, ↓reduceDIte]
  · simp only [show ¬ 768 + (k : ℕ) < 256 by omega, show ¬ 768 + (k : ℕ) - 256 < 256 by omega,
      show ¬ 768 + (k : ℕ) - 256 - 256 < 256 by omega, show 768 + (k : ℕ) - 256 - 256 - 256 = k by omega, ↓reduceDIte]

set_option maxHeartbeats 1600000 in
open Cert.OutRefIdeal.Read in
/-- The reference's result is the same array. -/
theorem ref_eq (p : FVec Ideal S16x2304x2688 .bf16) (yf yr : FVec Ideal S16x2304x256 .f32) (dd : FVec Ideal S256 .f32)
    (wg : FVec Ideal S256x256 .f32) (na gla swa : FVec Ideal S16x2304x256 .bf16) (wo : FVec Ideal S1024x1024 .f32)
    (g : FVec Ideal S1024 .f32) (ml : FVec Ideal S16x6x1024 .f32) (mc : FVec Ideal S1x6x1024 .f32)
    (x : FVec Ideal S16x2304x1024 .f32) : val_main_v58 (F := Ideal) p yf yr dd wg na gla swa wo g ml mc x
      = out p yf yr dd wg na gla swa wo g ml mc x := by
  funext i
  idx_vars i
  pointwise [val_main_v58, val_main_v57, val_main_v56, val_main_v55, val_main_v54, val_main_v53, val_main_v52, val_main_v51,
      val_main_v50, val_main_v49, val_main_v48, val_main_v47, val_main_v46, val_main_v45, val_main_v44, val_main_v43,
      val_main_v42, val_main_v41, val_main_v40, val_main_v39, val_main_v38, val_main_v37, val_main_v36, val_main_v35,
      val_main_v34, val_main_v33, val_main_cst_5, val_main_cst_6, val_main_cst_7, acc_eq, out, pick]
  by_cases h : (i1 : ℕ) < 256
  · simp only [h, ↓reduceDIte, ↓reduceIte]
  · have e : (⟨256 + (↑i1 - 256), by omega⟩ : Fin 2304) = i1 := Fin.ext (by show 256 + ((i1 : ℕ) - 256) = i1; omega)
    simp only [h, ↓reduceDIte, ↓reduceIte, e]

end Cert.Proof.OutValue

end
-- ==== Proof.ModValue.lean ====
/- The modulation: one grid point multiplies every condition, gated by its own sigmoid, by 1536 columns of one layer's weights.
   The reference's result, layer by layer, is the same sum. -/
module

public import proofs.«01_k».proof.Proof.Gen.ModIdeal.Value
public import proofs.«01_k».proof.Proof.Gen.ModRefIdeal.Read
public import Idealize.ShloMosaic.Lib.Pipeline.ValueKit
public import Idealize.ShloMosaic.Lib.Claim

@[expose] public section

set_option maxRecDepth 16384

noncomputable section

namespace Cert.Proof.ModValue

open Cert.ModIdeal Cert.ModIdeal.Gen Cert.ModIdeal.Value Idealize.ShloMosaic Idealize.ShloMosaic.TcCoe Idealize.SL.Sem

variable (m : (ℓ : Loc nD τ sig) → Buf (Elt Ideal) ℓ)

/-- A number times its own sigmoid. -/
def silu (x : EReal) : EReal := x * Ideal.div 1 (1 + Ideal.exp (-x))

/-- What the call computes: for layer `l` the conditions, gated, times the layer's weights, and the layer's bias. -/
def out (v : FVec Ideal S24x1024 .f32) (w : FVec Ideal S4x1024x6144 .f32) (b : FVec Ideal S4x6144 .f32) :
    FVec Ideal S4x24x6144 .f32 :=
  fun i => ∑ d : Fin 1024, silu (v (ix2 (i 1) d)) * w (ix3 (i 0) d (i 2)) + b (ix2 (i 0) (i 2))

/-- The block indices of the windows at a point, all points at once. -/
theorem idx : ∀ t : Fin cfg0.N, win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

/-- The result array after the run. -/
theorem final (c : Dev nD) : (dats m 0 c).arrAt 3 cfg0.N = out (m ((c : Thread nD τ).loc main_arg0))
    (m ((c : Thread nD τ).loc main_arg1)) (m ((c : Thread nD τ).loc main_arg2)) := by
  refine (dats m 0 c).arrAt_eq_of_covers 3 _ (by decide +kernel) fun t hf y => ?_
  rw [after0_3]
  frame_out
  idx_vars y
  blk_simp
  unfold_payloads
  pointwise [out, silu, zero_sub]
  blk_point [iblk, V, idx t]

/-- The reference's result is the same sum. -/
theorem ref_eq (v : FVec Ideal S24x1024 .f32) (w : FVec Ideal S4x1024x6144 .f32) (b : FVec Ideal S4x6144 .f32) :
    Cert.ModRefIdeal.Read.val_main_v37 (F := Ideal) v w b = out v w b := by
  funext i
  idx_vars i
  open Cert.ModRefIdeal.Read in
  pointwise [val_main_v37, val_main_v36, val_main_v35, val_main_v34, val_main_v33, val_main_v32, val_main_v31,
    val_main_v30, val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_v1, val_main_v0, val_main_call0_v5, val_main_call0_v4,
    val_main_call0_v3, val_main_call0_v2, val_main_call0_v1, val_main_call0_v0, val_main_call0_cst,
    val_main_call0_cst_0, out, silu]
  fin_cases i0 <;> rfl

end Cert.Proof.ModValue

end
-- ==== Proof.Claims.lean ====
/- The value claims: each kernel's result array over the extended reals is its reference's. -/
module

public import proofs.«01_k».proof.Defs
public import proofs.«01_k».proof.Proof.UpValue
public import proofs.«01_k».proof.Proof.Gen.UpRefIdeal.Run
public import proofs.«01_k».proof.Proof.InValue
public import proofs.«01_k».proof.Proof.Gen.InRefIdeal.Run
public import proofs.«01_k».proof.Proof.DownValue
public import proofs.«01_k».proof.Proof.Gen.DownRefIdeal.Run
public import proofs.«01_k».proof.Proof.Gen.DownRefIdeal.Read
public import proofs.«01_k».proof.Proof.OutValue
public import proofs.«01_k».proof.Proof.Gen.OutRefIdeal.Run
public import proofs.«01_k».proof.Proof.Gen.OutRefIdeal.Read
public import proofs.«01_k».proof.Proof.ModValue
public import proofs.«01_k».proof.Proof.Gen.ModRefIdeal.Run
public import proofs.«01_k».proof.Proof.Gen.ModRefIdeal.Read

@[expose] public section

noncomputable section

namespace Cert.Proof

open Idealize.ShloMosaic Idealize.SL.Sem

/-- The modulated norm and up-projection: kernel and reference end with equal results. -/
theorem algebraic_Up : Cert.algebraic_UpIdeal_UpRefIdeal := by
  pair_intro
  · run_from Cert.UpIdeal.Value.run_blocks m g
  · run_from Cert.UpRefIdeal.Value.run m' g'
    rw [UpValue.final]
    exact UpValue.ref_eq _ _ _ _ _

/-- The modulated norm and input projection: kernel and reference end with equal results. -/
theorem algebraic_In : Cert.algebraic_InIdeal_InRefIdeal := by
  pair_intro
  · run_from Cert.InIdeal.Value.run_blocks m g
  · run_from Cert.InRefIdeal.Value.run m' g'
    rw [InValue.final]
    exact InValue.ref_eq _ _ _ _ _

/-- The convolved, gated feed-forward's down-projection: kernel and reference end with equal results. -/
theorem algebraic_Down : Cert.algebraic_DownIdeal_DownRefIdeal := by
  pair_intro
  · run_from Cert.DownIdeal.Value.run_blocks m g
  · run_from Cert.DownRefIdeal.Value.run m' g'
    obtain ⟨h0, h1, h2, h3, h4, h5, h6⟩ := hagree c
    rw [DownValue.final, Cert.DownRefIdeal.Read.val_main_v115_eq, h0, h1, h2, h3, h4, h5, h6]
    exact DownValue.ref_eq _ _ _ _ _ _ _

/-- The mixers' output projection: kernel and reference end with equal results. -/
theorem algebraic_Out : Cert.algebraic_OutIdeal_OutRefIdeal := by
  pair_intro
  · run_from Cert.OutIdeal.Value.run_blocks m g
  · run_from Cert.OutRefIdeal.Value.run m' g'
    obtain ⟨h0, h1, h2, h3, h4, h5, h6, h7, h8, h9, h10, h11, h12⟩ := hagree c
    rw [OutValue.final, Cert.OutRefIdeal.Read.val_main_v58_eq, h0, h1, h2, h3, h4, h5, h6, h7, h8, h9, h10, h11, h12]
    exact OutValue.ref_eq _ _ _ _ _ _ _ _ _ _ _ _ _

/-- The modulation of all layers: kernel and reference end with equal results. -/
theorem algebraic_Mod : Cert.algebraic_ModIdeal_ModRefIdeal := by
  pair_intro
  · run_from Cert.ModIdeal.Value.run_blocks m g
  · run_from Cert.ModRefIdeal.Value.run m' g'
    obtain ⟨_, _, h2⟩ := hagree c
    rw [ModValue.final, Cert.ModRefIdeal.Read.val_main_v37_eq]
    exact (congrArg (Cert.ModRefIdeal.Read.val_main_v37 (F := Ideal) _ _) h2).trans (ModValue.ref_eq _ _ _)

end Cert.Proof

end
-- ==== Proof.SwaIdealRun.lean ====
/- The run of the sliding-window attention's body (`SwaIdeal`), and with it what its stores leave in the output's buffer.
   A slab of the output is loaded before the first loop and never used; the loop's region takes it as an operand all the same, so
   that the pieces the loop writes mention what the buffer held. `pb_eq` says they do not depend on it. -/
module

public import proofs.«01_k».proof.Proof.Gen.SwaIdeal.Frame.Runs

@[expose] public section

-- membership in a rectangle of production extents (`View.cover_of_tiled`): the elaborator's structural look
-- recurses once per coordinate of the long axes
set_option maxRecDepth 16384

noncomputable section

namespace Cert.SwaIdeal.Own

open Cert.SwaIdeal Cert.SwaIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000

/-- What a trip of the first loop writes does not depend on the unused slab. -/
theorem tripL_eq (𝒱 : Variants) (c : Dev nD) (bd : Option 𝒱.V) (i : grid0.Coords) (arg1 : Memref sig .tc .vmem S1x2304x256 .bf16) (harg1 : arg1.IsWhole) (arg2 : Memref sig .tc .vmem S1x2304x128 .bf16) (harg2 : arg2.IsWhole) (arg3 : Memref sig .tc .vmem S1x2304x128 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .smem S4 .f32) (harg6 : arg6.IsWhole) (arg7 : Memref sig .tc .vmem S1x2304x256 .bf16) (harg7 : arg7.IsWhole) (arg8 : Memref sig .tc .vmem S2048x256 .bf16) (harg8 : arg8.IsWhole) (arg9 : Memref sig .tc .vmem S2048x128 .bf16) (harg9 : arg9.IsWhole) (v72 : IVec S512x1 32) (v73 : IVec S256x1 32) (v74 : IVec S1x384 32) (v75 : Elt F .f32) (v76 : Elt F .f32) (v78 : FVec F S256x64 .bf16) (v80 : FVec F S256x64 .bf16) (v115 : FVec F S256x64 .bf16) (v116 : Vec F S1x256x64 .bf16) (X_arg3 : BufTy.Contents (Elt F) arg3.view.ty) (X_arg8 : BufTy.Contents (Elt F) arg8.view.ty) (X_arg9 : BufTy.Contents (Elt F) arg9.view.ty) (k : Fin k0_t1_loop.trips) :
    tripL_k0_t1 (F := F) 𝒱 c bd i arg1 harg1 arg2 harg2 arg3 harg3 arg4 harg4 arg5 harg5 arg6 harg6 arg7 harg7 arg8 harg8 arg9 harg9 v72 v73 v74 v75 v76 v78 v80 v115 v116 X_arg3 X_arg8 X_arg9 k = tripL_k0_t1 (F := F) 𝒱 c bd i arg1 harg1 arg2 harg2 arg3 harg3 arg4 harg4 arg5 harg5 arg6 harg6 arg7 harg7 arg8 harg8 arg9 harg9 v72 v73 v74 v75 v76 v78 v80 v115 (k0_pay23 v115) X_arg3 X_arg8 X_arg9 k := by
  unfold tripL_k0_t1 trip_k0_t1; rfl

/-- The pieces of the first loop's trips before `k`, at a fixed unused slab. -/
def pb (𝒱 : Variants) (c : Dev nD) (bd : Option 𝒱.V) (i : grid0.Coords) (arg1 : Memref sig .tc .vmem S1x2304x256 .bf16) (harg1 : arg1.IsWhole) (arg2 : Memref sig .tc .vmem S1x2304x128 .bf16) (harg2 : arg2.IsWhole) (arg3 : Memref sig .tc .vmem S1x2304x128 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .smem S4 .f32) (harg6 : arg6.IsWhole) (arg7 : Memref sig .tc .vmem S1x2304x256 .bf16) (harg7 : arg7.IsWhole) (arg8 : Memref sig .tc .vmem S2048x256 .bf16) (harg8 : arg8.IsWhole) (arg9 : Memref sig .tc .vmem S2048x128 .bf16) (harg9 : arg9.IsWhole) (v72 : IVec S512x1 32) (v73 : IVec S256x1 32) (v74 : IVec S1x384 32) (v75 : Elt F .f32) (v76 : Elt F .f32) (v78 : FVec F S256x64 .bf16) (v80 : FVec F S256x64 .bf16) (v115 : FVec F S256x64 .bf16) (X_arg3 : BufTy.Contents (Elt F) arg3.view.ty) (X_arg8 : BufTy.Contents (Elt F) arg8.view.ty) (X_arg9 : BufTy.Contents (Elt F) arg9.view.ty) (k : ℕ) : List (View.Piece (Elt F) S1x2304x256 .bf16) :=
  pb_k0_t1 (F := F) 𝒱 c bd i arg1 harg1 arg2 harg2 arg3 harg3 arg4 harg4 arg5 harg5 arg6 harg6 arg7 harg7 arg8 harg8 arg9 harg9 v72 v73 v74 v75 v76 v78 v80 v115 (k0_pay23 v115) X_arg3 X_arg8 X_arg9 k

theorem pb_eq (𝒱 : Variants) (c : Dev nD) (bd : Option 𝒱.V) (i : grid0.Coords) (arg1 : Memref sig .tc .vmem S1x2304x256 .bf16) (harg1 : arg1.IsWhole) (arg2 : Memref sig .tc .vmem S1x2304x128 .bf16) (harg2 : arg2.IsWhole) (arg3 : Memref sig .tc .vmem S1x2304x128 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .smem S4 .f32) (harg6 : arg6.IsWhole) (arg7 : Memref sig .tc .vmem S1x2304x256 .bf16) (harg7 : arg7.IsWhole) (arg8 : Memref sig .tc .vmem S2048x256 .bf16) (harg8 : arg8.IsWhole) (arg9 : Memref sig .tc .vmem S2048x128 .bf16) (harg9 : arg9.IsWhole) (v72 : IVec S512x1 32) (v73 : IVec S256x1 32) (v74 : IVec S1x384 32) (v75 : Elt F .f32) (v76 : Elt F .f32) (v78 : FVec F S256x64 .bf16) (v80 : FVec F S256x64 .bf16) (v115 : FVec F S256x64 .bf16) (v116 : Vec F S1x256x64 .bf16) (X_arg3 : BufTy.Contents (Elt F) arg3.view.ty) (X_arg8 : BufTy.Contents (Elt F) arg8.view.ty) (X_arg9 : BufTy.Contents (Elt F) arg9.view.ty) (k : ℕ) :
    pb_k0_t1 (F := F) 𝒱 c bd i arg1 harg1 arg2 harg2 arg3 harg3 arg4 harg4 arg5 harg5 arg6 harg6 arg7 harg7 arg8 harg8 arg9 harg9 v72 v73 v74 v75 v76 v78 v80 v115 v116 X_arg3 X_arg8 X_arg9 k = pb (F := F) 𝒱 c bd i arg1 harg1 arg2 harg2 arg3 harg3 arg4 harg4 arg5 harg5 arg6 harg6 arg7 harg7 arg8 harg8 arg9 harg9 v72 v73 v74 v75 v76 v78 v80 v115 X_arg3 X_arg8 X_arg9 k := by
  unfold pb
  induction k with
  | zero => rw [pb_k0_t1.eq_1, pb_k0_t1.eq_1]
  | succ k ih =>
    rw [pb_k0_t1.eq_2, pb_k0_t1.eq_2, ih]; unfold pb_k0_t1Step
    split
    · rw [tripL_eq]
    · rfl

set_option maxHeartbeats 1000000 in
/-- The body on whole staging memrefs: the pieces its stores leave in the output's, with the proof that it runs to the
    continuation holding the inputs' as they were, the scratch at some contents and the output's with its pieces written. -/
noncomputable def kernelRun0_A (c : Dev nD) (i : grid0.Coords) (arg1 : Memref sig .tc .vmem S1x2304x256 .bf16) (harg1 : arg1.IsWhole) (arg2 : Memref sig .tc .vmem S1x2304x128 .bf16) (harg2 : arg2.IsWhole) (arg3 : Memref sig .tc .vmem S1x2304x128 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .smem S4 .f32) (harg6 : arg6.IsWhole) (arg7 : Memref sig .tc .vmem S1x2304x256 .bf16) (harg7 : arg7.IsWhole) (arg8 : Memref sig .tc .vmem S2048x256 .bf16) (harg8 : arg8.IsWhole) (arg9 : Memref sig .tc .vmem S2048x128 .bf16) (harg9 : arg9.IsWhole)
    (x0 : Vec F S1x2304x256 .bf16) (x1 : Vec F S1x2304x128 .bf16) (x2 : Vec F S1x2304x128 .bf16) (x3 : Vec F S2048x256 .f32) (x4 : Vec F S2048x256 .f32) (x5 : Vec F S4 .f32) :
    { L6 : List (View.Piece (Elt F) S1x2304x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ d, owns (c : Thread nD τ) arg8 fullShare d) ∗ (∃ d, owns (c : Thread nD τ) arg9 fullShare d)) -∗ K ⟨⟩))
          ⊢ wp frame (wpE (defs₀ (F := F)) Variants.none c none) E (cc0_swa_attention i arg1 harg1 arg2 harg2 arg3 harg3 arg4 harg4 arg5 harg5 arg6 harg6 arg7 harg7 arg8 harg8 arg9 harg9) K } := by
  refine ⟨?_, fun E K => ?run⟩
  case run =>
    simp only [cc0_swa_attention_eq_skeleton]; unfold cc0_swa_attention_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _
      rw [pb_eq]
      iexact H6
    isplitl [HS0]
    · iexists _, _; isplitr; swap; · iexact HS0
      ipureintro; rfl
    iexists _, _; isplitr; swap; · iexact HS1
    ipureintro; rfl

end Cert.SwaIdeal.Own

end
-- ==== Proof.SwaIdealFrame.lean ====
/- The frame of the sliding-window attention (`SwaIdeal`) over the run of `SwaIdealRun`. -/
module

public import proofs.«01_k».proof.Proof.SwaIdealRun
public import Idealize.ShloMosaic.Lib.Claim

@[expose] public section

-- membership in a rectangle of production extents (`View.cover_of_tiled`): the elaborator's structural look
-- recurses once per coordinate of the long axes
set_option maxRecDepth 16384

noncomputable section

namespace Cert.SwaIdeal.Own

open Cert.SwaIdeal Cert.SwaIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 6 are of SEVERAL sizes (68 stores of `S1x128x64`, `S1x256x64`): cut into blocks of `![1, 128, 64]` they tile its block (checked by the kernel's evaluation: Lib/Ring.lean `Piece.tiledBy`), so they cover it. -/
theorem cover0_A_6 (c : Dev nD) (i : grid0.Coords) (arg1 : Memref sig .tc .vmem S1x2304x256 .bf16) (harg1 : arg1.IsWhole) (arg2 : Memref sig .tc .vmem S1x2304x128 .bf16) (harg2 : arg2.IsWhole) (arg3 : Memref sig .tc .vmem S1x2304x128 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .smem S4 .f32) (harg6 : arg6.IsWhole) (arg7 : Memref sig .tc .vmem S1x2304x256 .bf16) (harg7 : arg7.IsWhole) (arg8 : Memref sig .tc .vmem S2048x256 .bf16) (harg8 : arg8.IsWhole) (arg9 : Memref sig .tc .vmem S2048x128 .bf16) (harg9 : arg9.IsWhole)
    (x0 : Vec F S1x2304x256 .bf16) (x1 : Vec F S1x2304x128 .bf16) (x2 : Vec F S1x2304x128 .bf16) (x3 : Vec F S2048x256 .f32) (x4 : Vec F S2048x256 .f32) (x5 : Vec F S4 .f32) (y : S1x2304x256.Idx) :
    ∃ pc ∈ (kernelRun0_A c i arg1 harg1 arg2 harg2 arg3 harg3 arg4 harg4 arg5 harg5 arg6 harg6 arg7 harg7 arg8 harg8 arg9 harg9 x0 x1 x2 x3 x4 x5).1, y ∈ pc.1.set :=
  View.cover_of_tiledBy (kernelRun0_A c i arg1 harg1 arg2 harg2 arg3 harg3 arg4 harg4 arg5 harg5 arg6 harg6 arg7 harg7 arg8 harg8 arg9 harg9 x0 x1 x2 x3 x4 x5).1 ![1, 128, 64] (by sl_kernel_rfl) y

/-- What the run leaves in output 6's staging buffer: its pieces read back over junk. -/
def out0_A_6 (c : Dev nD) (i : grid0.Coords) (arg1 : Memref sig .tc .vmem S1x2304x256 .bf16) (harg1 : arg1.IsWhole) (arg2 : Memref sig .tc .vmem S1x2304x128 .bf16) (harg2 : arg2.IsWhole) (arg3 : Memref sig .tc .vmem S1x2304x128 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .smem S4 .f32) (harg6 : arg6.IsWhole) (arg7 : Memref sig .tc .vmem S1x2304x256 .bf16) (harg7 : arg7.IsWhole) (arg8 : Memref sig .tc .vmem S2048x256 .bf16) (harg8 : arg8.IsWhole) (arg9 : Memref sig .tc .vmem S2048x128 .bf16) (harg9 : arg9.IsWhole)
    (x0 : Vec F S1x2304x256 .bf16) (x1 : Vec F S1x2304x128 .bf16) (x2 : Vec F S1x2304x128 .bf16) (x3 : Vec F S2048x256 .f32) (x4 : Vec F S2048x256 .f32) (x5 : Vec F S4 .f32) : Vec F S1x2304x256 .bf16 :=
  VO0_6.read (Elt F) (VO0_6.writes (Elt F) VO0_6.junk (kernelRun0_A c i arg1 harg1 arg2 harg2 arg3 harg3 arg4 harg4 arg5 harg5 arg6 harg6 arg7 harg7 arg8 harg8 arg9 harg9 x0 x1 x2 x3 x4 x5).1)

/-! ## What the outputs hold after each point -/

/-- What the outputs' staging buffers hold after the body at point `t`: the run's contents at
    the point's memrefs and input blocks. -/
def outsAt0 (c : Dev nD) (t : Fin cfg0.N) : Vec F S1x2304x256 .bf16 :=
  out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (X0_0 m c t) (iblk m c 1 t) (iblk m c 2 t) (iblk m c 3 t) (iblk m c 4 t) (iblk m c 5 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t) := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  unfold out0_A_6
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ (X0_0 m c t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%e6, H6⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_A_6 c _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.SwaIdeal.Own

end
-- ==== Proof.SwaFrames.lean ====
/- The frames of the sliding-window attention, and the reading of its mask literal. -/
module

public import proofs.«01_k».proof.Defs
public import proofs.«01_k».proof.Proof.SwaFrame
public import proofs.«01_k».proof.Proof.SwaIdealFrame
public import proofs.«01_k».proof.Proof.Gen.SwaRefIdeal.Run
public import proofs.«01_k».proof.Proof.Gen.SwaRefIdeal.Read
public import Idealize.ShloMosaic.Lib.Claim

@[expose] public section

noncomputable section

namespace Cert.Proof

open Idealize.ShloMosaic Idealize.SL.Sem

/-- The sliding-window attention runs at the hardware's arithmetic, its arguments end unchanged and its counters at zero. -/
theorem frame_Swa : Cert.quiescent_Swa := fun m ρ _ => Cert.Swa.Own.frame m ρ
/-- So does its kernel over the extended reals. -/
theorem frame_SwaIdeal : Cert.quiescent_SwaIdeal := fun m ρ _ => Cert.SwaIdeal.Own.frame m ρ
/-- So does its reference over the extended reals. -/
theorem frame_SwaRefIdeal : Cert.quiescent_SwaRefIdeal := fun m ρ _ =>
  (θ_run Cert.SwaRefIdeal.defs _ _).mono (fun r h => ⟨fun c => (h c).2, sem_eq_zero_of_no_sems (by decide) r.2⟩)
    (Cert.SwaRefIdeal.Value.run (F := Ideal) m ρ)

/-- The attention's mask literal is read as the −∞ it stands for. -/
theorem preserves_swa : Cert.preserves_Swa_SwaIdeal :=
  IdealRules.named_const.statement Cert.SwaIdeal.κ "mask" .f32 0xF149F2CA#32 ⊥ rfl

end Cert.Proof

end
-- ==== Proof.SwaIdealBlocks.lean ====
/- What the sliding-window attention leaves in its output, block by block, over the frame of `SwaIdealFrame`. -/
module

public import proofs.«01_k».proof.Proof.SwaIdealFrame
public import Idealize.ShloMosaic.Lib.Pipeline.Value

@[expose] public section

noncomputable section

namespace Cert.SwaIdeal.OwnValue

open Cert.SwaIdeal Cert.SwaIdeal.Gen Cert.SwaIdeal.Own Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`), read through the window's block. -/
theorem flushed6 (c : Dev nD) (t : Fin cfg0.N) :
    (dats m 0 c).flushed 6 t = (cfg0.win 6).cut (grid0.coords t) (outsAt0 m c t) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — the kernel's one case, `Gen.outsAt0` by definition. -/
theorem flushed6_A (c : Dev nD) (t : Fin cfg0.N) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (X0_0 m c t) (iblk m c 1 t) (iblk m c 2 t) (iblk m c 3 t) (iblk m c 4 t) (iblk m c 5 t)) := by
  simp only [flushed6, outsAt0]

/-- The index map sends distinct grid points to distinct block indices (decided over the 16 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S16x2304x256.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v43) = (dats m 0 c).arrAt 6 cfg0.N :=
  (h c).1 6

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 5 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 5).trans (((dats m 0 c).arrAt_in 5 rfl _).trans ((A_eq m c 5).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v43) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post6 m r h c,
      kept_main_arg0 m r h c,
      kept_main_arg1 m r h c⟩)
    (run_main m ρ)

end Cert.SwaIdeal.OwnValue

end
-- ==== Proof.SwaMath.lean ====
/- The windowed attention as sums over the extended reals: the softmax over the keys of a window, the context's keys and a
   sink, written once over all keys with the masked ones at minus infinity, and the two forms in which the programs hold it. -/
module

public import Idealize.ShloMosaic.Lib.Pointwise
public import Idealize.ShloMosaic.Lib.WordCmp

@[expose] public section

noncomputable section

namespace Cert.Proof.SwaMath

open Idealize.ShloMosaic

/-- The largest logit. -/
def top (S C : ℕ → EReal) (k : EReal) : EReal := max (max ((Finset.range 2048).sup S) ((Finset.range 256).sup C)) k

/-- The sum of the exponentials. -/
def den (S C : ℕ → EReal) (k M : EReal) : EReal :=
  ∑ i ∈ Finset.range 2048, Ideal.exp (S i - M) + ∑ i ∈ Finset.range 256, Ideal.exp (C i - M) + Ideal.exp (k - M)

/-- Attention over 2048 latent keys (logits `S`, values `V`), 256 context keys (`C`, `W`) and a sink `k` without a value. -/
def att (S V C W : ℕ → EReal) (k : EReal) : EReal :=
  Ideal.div (∑ i ∈ Finset.range 2048, Ideal.exp (S i - top S C k) * V i
    + ∑ i ∈ Finset.range 256, Ideal.exp (C i - top S C k) * W i) (den S C k (top S C k))

/-- Attention over the context keys and the sink alone. -/
def catt (C W : ℕ → EReal) (k : EReal) : EReal :=
  Ideal.div (∑ i ∈ Finset.range 256, Ideal.exp (C i - max ((Finset.range 256).sup C) k) * W i)
    (∑ i ∈ Finset.range 256, Ideal.exp (C i - max ((Finset.range 256).sup C) k)
      + Ideal.exp (k - max ((Finset.range 256).sup C) k))

theorem ninf : Ideal.ofBits .f32 0xFF800000#32 = ⊥ := by
  simp [Ideal.ofBits, Ideal.ieee]

theorem fold_sup {n : ℕ} (f : Fin n → EReal) : Finset.fold max (Ideal.ofBits .f32 0xFF800000#32) f Finset.univ
    = Finset.univ.sup f := by
  rw [ninf]; rfl

theorem sup_range (n : ℕ) (f : ℕ → EReal) : (Finset.univ : Finset (Fin n)).sup (fun x => f x) = (Finset.range n).sup f := by
  apply le_antisymm
  · exact Finset.sup_le fun x _ => Finset.le_sup (f := f) (Finset.mem_range.2 x.isLt)
  · exact Finset.sup_le fun x hx => Finset.le_sup (f := fun x : Fin n => f x) (Finset.mem_univ ⟨x, Finset.mem_range.1 hx⟩)

theorem exp_bot_sub (M : EReal) : Ideal.exp (⊥ - M) = 0 := by
  rw [sub_eq_add_neg, EReal.bot_add]; rfl

/-- A sum over a window of 384 numbers from `a - 128` on that leaves out nothing but zeros. -/
theorem sum_window (a : ℕ) (g : Fin 384 → EReal) (f : ℕ → EReal)
    (hg : ∀ j : Fin 384, g j = if 128 ≤ a + j ∧ a + j < 2176 then f (a + j - 128) else 0)
    (hf : ∀ i, i < 2048 → (i + 128 < a ∨ a + 384 ≤ i + 128) → f i = 0) :
    ∑ j : Fin 384, g j = ∑ i ∈ Finset.range 2048, f i := by
  have e : ∑ j : Fin 384, g j = ∑ j ∈ Finset.range 384, if 128 ≤ a + j ∧ a + j < 2176 then f (a + j - 128) else 0 := by
    rw [← Fin.sum_univ_eq_sum_range (fun j => if 128 ≤ a + j ∧ a + j < 2176 then f (a + j - 128) else 0)]
    exact Finset.sum_congr rfl fun j _ => hg j
  rw [e, ← Finset.sum_filter]
  refine Finset.sum_bij_ne_zero (fun j _ _ => a + j - 128) ?_ ?_ ?_ ?_
  · intro j hj _
    simp only [Finset.mem_filter, Finset.mem_range] at hj ⊢
    omega
  · intro j hj _ l hl _ h
    simp only [Finset.mem_filter, Finset.mem_range] at hj hl
    omega
  · intro i hi h
    simp only [Finset.mem_range] at hi
    have hw : a ≤ i + 128 ∧ i + 128 < a + 384 := by
      by_contra hc
      exact h (hf i hi (by omega))
    have hb : a + (i + 128 - a) - 128 = i := by omega
    refine ⟨i + 128 - a, ?_, ?_, hb⟩
    · simp only [Finset.mem_filter, Finset.mem_range]; omega
    · rw [hb]; exact h
  · intro j _ _; rfl

/-- A maximum likewise, where what is left out is minus infinity. -/
theorem sup_window (a : ℕ) (g : Fin 384 → EReal) (f : ℕ → EReal)
    (hg : ∀ j : Fin 384, g j = if 128 ≤ a + j ∧ a + j < 2176 then f (a + j - 128) else ⊥)
    (hf : ∀ i, i < 2048 → (i + 128 < a ∨ a + 384 ≤ i + 128) → f i = ⊥) :
    Finset.univ.sup g = (Finset.range 2048).sup f := by
  apply le_antisymm
  · refine Finset.sup_le fun j _ => ?_
    rw [hg j]
    split
    · next h => exact Finset.le_sup (f := f) (Finset.mem_range.2 (by omega))
    · exact bot_le
  · refine Finset.sup_le fun i hi => ?_
    have hi := Finset.mem_range.1 hi
    by_cases hw : i + 128 < a ∨ a + 384 ≤ i + 128
    · rw [hf i hi hw]; exact bot_le
    · have hj : i + 128 - a < 384 := by omega
      have e := hg ⟨i + 128 - a, hj⟩
      rw [if_pos (by dsimp only; omega), show a + (⟨i + 128 - a, hj⟩ : Fin 384).val - 128 = i by dsimp only; omega] at e
      rw [← e]
      exact Finset.le_sup (f := g) (Finset.mem_univ _)

/-- The attention as the kernel computes it: the window's 384 keys from `a` on, which hold every key that is not masked. -/
theorem att_kernel (S V C W : ℕ → EReal) (k : EReal) (a : ℕ) (ha : a + 384 ≤ 2048) (s v : Fin 384 → EReal)
    (c w : Fin 256 → EReal) (hs : ∀ j : Fin 384, s j = S (a + j)) (hv : ∀ j : Fin 384, v j = V (a + j))
    (hc : ∀ j : Fin 256, c j = C j) (hw : ∀ j : Fin 256, w j = W j)
    (hf : ∀ i, i < 2048 → (i < a ∨ a + 384 ≤ i) → S i = ⊥) (M : EReal)
    (hM : M = max (max (Finset.fold max (Ideal.ofBits .f32 0xFF800000#32) s Finset.univ)
      (Finset.fold max (Ideal.ofBits .f32 0xFF800000#32) c Finset.univ)) k) :
    Ideal.div (∑ j : Fin 384, Ideal.exp (s j - M) * v j + ∑ j : Fin 256, Ideal.exp (c j - M) * w j)
      (∑ j : Fin 384, Ideal.exp (s j - M) + ∑ j : Fin 256, Ideal.exp (c j - M) + Ideal.exp (k - M)) = att S V C W k := by
  obtain rfl : s = (fun j : Fin 384 => S (a + j)) := funext hs
  obtain rfl : v = (fun j : Fin 384 => V (a + j)) := funext hv
  obtain rfl : c = (fun j : Fin 256 => C j) := funext hc
  obtain rfl : w = (fun j : Fin 256 => W j) := funext hw
  have eM : M = top S C k := by
    rw [hM, fold_sup, fold_sup, sup_range 256 C,
      sup_window (a + 128) (fun j => S (a + j)) S (fun j => by
        rw [if_pos (by omega), show a + 128 + (j : ℕ) - 128 = a + j by omega]) (fun i hi h => hf i hi (by omega))]
    rfl
  subst eM
  rw [sum_window (a + 128) (fun j => Ideal.exp (S (a + j) - top S C k) * V (a + j))
      (fun i => Ideal.exp (S i - top S C k) * V i) (fun j => by
        rw [if_pos (by omega), show a + 128 + (j : ℕ) - 128 = a + j by omega]) (fun i hi h => by
        rw [hf i hi (by omega), exp_bot_sub, zero_mul]),
    sum_window (a + 128) (fun j => Ideal.exp (S (a + j) - top S C k))
      (fun i => Ideal.exp (S i - top S C k)) (fun j => by
        rw [if_pos (by omega), show a + 128 + (j : ℕ) - 128 = a + j by omega]) (fun i hi h => by
        rw [hf i hi (by omega), exp_bot_sub]),
    Fin.sum_univ_eq_sum_range (fun j => Ideal.exp (C j - top S C k) * W j),
    Fin.sum_univ_eq_sum_range (fun j => Ideal.exp (C j - top S C k))]
  rfl

theorem catt_kernel (C W : ℕ → EReal) (k : EReal) (c w : Fin 256 → EReal)
    (hc : ∀ j : Fin 256, c j = C j) (hw : ∀ j : Fin 256, w j = W j) (M : EReal)
    (hM : M = max (Finset.fold max (Ideal.ofBits .f32 0xFF800000#32) c Finset.univ) k) :
    Ideal.div (∑ j : Fin 256, Ideal.exp (c j - M) * w j)
      (∑ j : Fin 256, Ideal.exp (c j - M) + Ideal.exp (k - M)) = catt C W k := by
  obtain rfl : c = (fun j : Fin 256 => C j) := funext hc
  obtain rfl : w = (fun j : Fin 256 => W j) := funext hw
  have eM : M = max ((Finset.range 256).sup C) k := by rw [hM, fold_sup, sup_range 256 C]
  subst eM
  rw [Fin.sum_univ_eq_sum_range (fun j => Ideal.exp (C j - max ((Finset.range 256).sup C) k) * W j),
    Fin.sum_univ_eq_sum_range (fun j => Ideal.exp (C j - max ((Finset.range 256).sup C) k))]
  rfl

/-- A real number, one of the extended ones. -/
def Fin' (x : EReal) : Prop := ∃ r : ℝ, x = r

theorem Fin'.add {x y : EReal} (hx : Fin' x) (hy : Fin' y) : Fin' (x + y) := by
  obtain ⟨r, rfl⟩ := hx; obtain ⟨s, rfl⟩ := hy; exact ⟨r + s, rfl⟩
theorem Fin'.sub {x y : EReal} (hx : Fin' x) (hy : Fin' y) : Fin' (x - y) := by
  obtain ⟨r, rfl⟩ := hx; obtain ⟨s, rfl⟩ := hy; exact ⟨r - s, rfl⟩
theorem Fin'.mul {x y : EReal} (hx : Fin' x) (hy : Fin' y) : Fin' (x * y) := by
  obtain ⟨r, rfl⟩ := hx; obtain ⟨s, rfl⟩ := hy; exact ⟨r * s, rfl⟩
theorem Fin'.sum {ι : Type} (s : Finset ι) (f : ι → EReal) (h : ∀ i ∈ s, Fin' (f i)) : Fin' (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem exp_nonneg (x : EReal) : 0 ≤ Ideal.exp x := by
  rcases x with _ | x
  · exact le_refl _
  rcases x with _ | x
  · exact le_top
  · exact EReal.coe_nonneg.2 (Real.exp_nonneg x)

theorem exp_pos {k M : EReal} (hk : Fin' k) (hM : M ≠ ⊤) : 0 < Ideal.exp (k - M) := by
  obtain ⟨r, rfl⟩ := hk
  rcases M with _ | M
  · exact EReal.zero_lt_top
  rcases M with _ | M
  · exact absurd rfl hM
  · exact EReal.coe_pos.2 (Real.exp_pos (r - M))

/-- Dividing every term of a sum by a positive number is dividing the sum. -/
theorem sum_div {ι : Type} (s : Finset ι) (P v : ι → EReal) (D : EReal) (hD : 0 < D) :
    ∑ i ∈ s, Ideal.div (P i) D * v i = Ideal.div (∑ i ∈ s, P i * v i) D := by
  classical
  have e : ∀ x, Ideal.div x D = D⁻¹ * x := fun x => by
    unfold Ideal.div; rw [if_neg hD.ne', mul_comm]
  have hn : 0 ≤ D⁻¹ := EReal.inv_nonneg_of_nonneg hD.le
  have ht : D⁻¹ ≠ ⊤ := by
    induction D with
    | bot => simp
    | top => simp
    | coe D => rw [← EReal.coe_inv]; exact EReal.coe_ne_top _
  rw [e]
  induction s using Finset.induction_on with
  | empty => simp
  | insert a s ha ih =>
    rw [Finset.sum_insert ha, Finset.sum_insert ha, EReal.left_distrib_of_nonneg_of_ne_top hn ht, ih, e, mul_assoc]

theorem div_add {x y D : EReal} (hD : 0 < D) : Ideal.div x D + Ideal.div y D = Ideal.div (x + y) D := by
  have h := sum_div (Finset.univ : Finset (Fin 2)) ![x, y] (fun _ => 1) D hD
  simpa using h

/-- A nonnegative factor of every term comes out of a sum. -/
theorem sum_scale {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, mul_comm, EReal.left_distrib_of_nonneg_of_ne_top h0 ht, ← ih,
      mul_comm c, mul_comm c]

/-- One eighth. -/
def e : EReal := Ideal.ofBits .f32 0x3E000000#32

theorem e_eq : e = ((1 / 8 : ℝ) : EReal) := by
  simp [e, Ideal.ofBits, Ideal.ieee, -EReal.coe_mul]; norm_num

theorem e_bf16 : Ideal.ofBits .bf16 0x3E00#16 = e := by
  rw [e_eq]; simp [Ideal.ofBits, Ideal.ieee, -EReal.coe_mul]; norm_num

/-- The rotary embedding of a row `x`, of which every 64 numbers are a head, each half of a head turned by its own angles:
    number `c`, with the cosines and sines of the row's angles given. -/
def rope (cs sn x : ℕ → EReal) (c : ℕ) : EReal :=
  if c % 32 < 16 then x c * cs (c % 64) - x (c + 16) * sn (c % 64) else x (c - 16) * sn (c % 64) + x c * cs (c % 64)

/-- The turned queries and keys of latent row `r`, of a batch entry's rows `p` of the projection. -/
def qr (p cs sn : ℕ → ℕ → EReal) (r c : ℕ) : EReal := rope (cs r) (sn r) (fun c => p (256 + r) (2048 + c)) c
def kr (p cs sn : ℕ → ℕ → EReal) (r c : ℕ) : EReal := rope (cs r) (sn r) (fun c => p (256 + r) (2304 + c)) c

/-- Head `h`'s logits of latent row `r`: with latent key `i`, with context key `j`; of context row `r` with context key `j`. -/
def S (p cs sn : ℕ → ℕ → EReal) (h r i : ℕ) : EReal :=
  if r ≤ i + 128 ∧ i ≤ r + 128 then ∑ x : Fin 64, qr p cs sn r (64 * h + x) * e * kr p cs sn i (64 * (h / 2) + x) else ⊥
def C (p cs sn : ℕ → ℕ → EReal) (h r j : ℕ) : EReal :=
  ∑ x : Fin 64, qr p cs sn r (64 * h + x) * e * p j (2304 + (64 * (h / 2) + x))
def C' (p : ℕ → ℕ → EReal) (h r j : ℕ) : EReal :=
  ∑ x : Fin 64, p r (2048 + (64 * h + x)) * e * p j (2304 + (64 * (h / 2) + x))

/-- Column `c` of the result's latent row `r`. -/
def latent (p cs sn : ℕ → ℕ → EReal) (sk : ℕ → EReal) (r c : ℕ) : EReal :=
  att (S p cs sn (c / 64) r) (fun i => p (256 + i) (2432 + (64 * (c / 64 / 2) + c % 64))) (C p cs sn (c / 64) r)
    (fun j => p j (2432 + (64 * (c / 64 / 2) + c % 64))) (sk (c / 64))

/-- Column `c` of the result's context row `r`. -/
def context (p : ℕ → ℕ → EReal) (sk : ℕ → EReal) (r c : ℕ) : EReal :=
  catt (C' p (c / 64) r) (fun j => p j (2432 + (64 * (c / 64 / 2) + c % 64))) (sk (c / 64))

/-- The result at row `r`, column `c`. -/
def res (p cs sn : ℕ → ℕ → EReal) (sk : ℕ → EReal) (r c : ℕ) : EReal :=
  if r < 256 then context p sk r c else latent p cs sn sk (r - 256) c

end Cert.Proof.SwaMath

end
-- ==== Proof.SwaPay.lean ====
/- The arithmetic of the windowed attention's kernel at one entry. -/
module

public import proofs.«01_k».proof.Proof.Gen.SwaIdeal.Skeleton
public import proofs.«01_k».proof.Proof.SwaMath
public import Idealize.ShloMosaic.Lib.Pipeline.ValueKit

@[expose] public section

set_option maxRecDepth 16384

noncomputable section

namespace Cert.Proof.SwaPay

open Cert.SwaIdeal Cert.SwaIdeal.Gen Idealize.ShloMosaic Idealize.ShloMosaic.TcCoe
open Cert.Proof.SwaMath

/-- The absolute difference of two small numbers, compared with 128 as words. -/
theorem near (A B : ℕ) (hA : A < 4096) (hB : B < 4096) :
    IntOp.cmpi .sle (IntOp.absi (IntOp.subi (BitVec.ofNat 32 A) (BitVec.ofNat 32 B))) 128#32
      = BitVec.ofBool (decide (A ≤ B + 128 ∧ B ≤ A + 128)) := by
  rcases Nat.le_total B A with h | h
  · have e : IntOp.subi (BitVec.ofNat 32 A) (BitVec.ofNat 32 B) = BitVec.ofNat 32 (A - B) := by
      apply BitVec.eq_of_toNat_eq
      simp only [IntOp.subi, BitVec.toNat_sub, BitVec.toNat_ofNat]
      omega
    have e2 : IntOp.absi (BitVec.ofNat 32 (A - B)) = BitVec.ofNat 32 (A - B) := by
      unfold IntOp.absi
      rw [if_neg]
      rw [BitVec.msb_eq_decide]
      simp only [BitVec.toNat_ofNat, decide_eq_true_eq]
      omega
    rw [e, e2, show (128#32) = BitVec.ofNat 32 128 from rfl, WordCmp.cmpi_sle_ofNat (by omega) (by omega)]
    congr 1
    exact decide_eq_decide.2 (by omega)
  · have e2 : IntOp.absi (IntOp.subi (BitVec.ofNat 32 A) (BitVec.ofNat 32 B)) = BitVec.ofNat 32 (B - A) := by
      unfold IntOp.absi
      rcases Nat.eq_or_lt_of_le h with h | h
      · subst h
        simp [IntOp.subi]
      rw [if_pos]
      · apply BitVec.eq_of_toNat_eq
        simp only [IntOp.subi, BitVec.toNat_neg, BitVec.toNat_sub, BitVec.toNat_ofNat]
        omega
      · rw [BitVec.msb_eq_decide]
        simp only [IntOp.subi, BitVec.toNat_sub, BitVec.toNat_ofNat, decide_eq_true_eq]
        omega
    rw [e2, show (128#32) = BitVec.ofNat 32 128 from rfl, WordCmp.cmpi_sle_ofNat (by omega) (by omega)]
    congr 1
    exact decide_eq_decide.2 (by omega)

/-- The window's first key at trip `n`. -/
def ws (n : ℕ) : ℕ := min 13 (n - 1) * 128

theorem ws_word : ∀ n : Fin 16, Scalar.muli (Scalar.minsi 13#32 (Scalar.maxsi 0#32 (Scalar.subi (Scf.iv 0#32 1#32 n.val) 1#32))) 128#32
    = BitVec.ofNat 32 (ws n.val) := by decide +kernel

theorem row_word : ∀ n : Fin 16, Scalar.muli (Scf.iv 0#32 1#32 n.val) 128#32 = BitVec.ofNat 32 (n.val * 128) := by decide +kernel

theorem wrap_word : ∀ r : Fin 256, Scalar.select (IntOp.andi (IntOp.xori (IntOp.cmpi .slt (IntOp.remsi .vector (BitVec.ofNat 32 r.val) 128#32) 0#32) 0#1)
   (IntOp.cmpi .ne (IntOp.remsi .vector (BitVec.ofNat 32 r.val) 128#32) 0#32)) (IntOp.addi (IntOp.remsi .vector (BitVec.ofNat 32 r.val) 128#32) 128#32)
   (IntOp.remsi .vector (BitVec.ofNat 32 r.val) 128#32) = BitVec.ofNat 32 (r.val % 128) := by decide +kernel

/-- The named mask. -/
theorem mask_named : Named.named (F := Ideal) κ "mask" (φ := .f32) 0xF149F2CA#32 = ⊥ := by
  first | rfl | simp [Named.named]

theorem pay7_apply (k : Fin k0_t1_loop.trips) (r : Fin 256) (j : Fin 384) :
    k0_pay7 (iota .tc S256x1 32 [0] iota_S256x1_d0_w32) (iota .tc S1x384 32 [1] iota_S1x384_d1_w32) 0#32 1#32 k (ix2 r j)
      = BitVec.ofBool (decide (k.val * 128 + r.val % 128 ≤ ws k.val + j.val + 128
        ∧ ws k.val + j.val ≤ k.val * 128 + r.val % 128 + 128)) := by
  unfold k0_pay7
  pointwise []
  rw [show Scalar.select (Scalar.cmpi CmpIPredicate.eq 128#32 0#32) 1#32 128#32 = 128#32 from by decide,
    show Scalar.cmpi CmpIPredicate.slt 128#32 0#32 = 0#1 from by decide, wrap_word r, ws_word k, row_word k]
  have hk : k.val < 16 := k.isLt
  have hw : ws k.val ≤ 1664 := by unfold ws; omega
  rw [show ∀ a b : ℕ, IntOp.addi (BitVec.ofNat 32 a) (BitVec.ofNat 32 b) = BitVec.ofNat 32 (a + b) from
      fun a b => (BitVec.ofNat_add a b).symm,
    show ∀ a b : ℕ, IntOp.addi (BitVec.ofNat 32 a) (BitVec.ofNat 32 b) = BitVec.ofNat 32 (a + b) from
      fun a b => (BitVec.ofNat_add a b).symm, near _ _ (by omega) (by omega)]

theorem pay8_att (v78 : FVec Ideal S256x64 .bf16) (v80 : FVec Ideal S256x64 .bf16) (v123 : FVec Ideal S256x1 .f32) (v188 : FVec Ideal S256x64 .bf16) (v215 : IVec S256x384 1) (v217 : Vec Ideal S384x64 .bf16) (v244 : Vec Ideal S1x384x64 .bf16)
    (r : Fin 256) (d : Fin 64) (S V C W : ℕ → EReal) (k : EReal) (a : ℕ) (ha : a + 384 ≤ 2048)
    (hs : ∀ j : Fin 384, Scalar.select (v215 (ix2 r j)) (∑ x : Fin 64, v188 (ix2 r x) * v217 (ix2 j x)) ⊥ = S (a + j))
    (hv : ∀ j : Fin 384, v244 (ix3 0 j d) = V (a + j))
    (hc : ∀ j : Fin 256, ∑ x : Fin 64, v188 (ix2 r x) * v78 (ix2 j x) = C j)
    (hw : ∀ j : Fin 256, v80 (ix2 j d) = W j) (hk : v123 (ix2 r 0) = k)
    (hf : ∀ i, i < 2048 → (i < a ∨ a + 384 ≤ i) → S i = ⊥) :
    k0_pay8 v78 v80 v123 v188 v215 v217 v244 (ix2 r d) = att S V C W k := by
  unfold k0_pay8
  pointwise []
  simp only [mask_named, hk]
  exact att_kernel S V C W k a ha _ _ _ _ hs hv hc hw hf _ rfl

theorem half_word : ∀ c : Fin 256, IntOp.cmpi .slt (Scalar.select (IntOp.andi (IntOp.xori (IntOp.cmpi .slt (IntOp.remsi .vector (BitVec.ofNat 32 c.val) 32#32) 0#32) 0#1)
   (IntOp.cmpi .ne (IntOp.remsi .vector (BitVec.ofNat 32 c.val) 32#32) 0#32)) (IntOp.addi (IntOp.remsi .vector (BitVec.ofNat 32 c.val) 32#32) 32#32)
   (IntOp.remsi .vector (BitVec.ofNat 32 c.val) 32#32)) 16#32 = BitVec.ofBool (decide (c.val % 32 < 16)) := by decide +kernel

theorem rope_signed (cs sn x : ℕ → EReal) (c : ℕ) : x c * cs (c % 64) + (if c % 32 < 16 then x (c + 16) else x (c - 16))
    * (if c % 32 < 16 then - sn (c % 64) else sn (c % 64)) = rope cs sn x c := by
  unfold rope
  split
  · rw [mul_neg, ← sub_eq_add_neg]
  · rw [add_comm]

theorem pay16_apply (v0 : Vec Ideal S2048x256 .f32) (v2 : Vec Ideal S2048x256 .f32) (v4 : Vec Ideal S1x2048x256 .bf16)
    (r : Fin 2048) (c : Fin 256) (cs sn x : ℕ → EReal) (h0 : v0 (ix2 r c) = cs (c % 64))
    (h2 : v2 (ix2 r c) = if (c : ℕ) % 32 < 16 then - sn (c % 64) else sn (c % 64))
    (hx : ∀ c : Fin 256, v4 (ix3 0 r c) = x c) : k0_pay16 v0 v2 v4 (ix2 r c) = rope cs sn x c * e := by
  unfold k0_pay16 k0_pay14 k0_pay15
  pointwise []
  rw [show Scalar.select (Scalar.cmpi CmpIPredicate.eq 32#32 0#32) 1#32 32#32 = 32#32 from by decide,
    show Scalar.cmpi CmpIPredicate.slt 32#32 0#32 = 0#1 from by decide, half_word c, WordCmp.select_ofBool]
  simp only [hx, h0, h2, decide_eq_true_eq]
  rw [← rope_signed, e]
  congr 3
  split
  · next h => congr 1; omega
  · next h => congr 1; omega

theorem pay17_apply (v1 : FVec Ideal S2048x256 .f32) (v3 : FVec Ideal S2048x256 .f32) (v38 : Vec Ideal S1x2048x128 .bf16)
    (r : Fin 2048) (c : Fin 128) (cs sn x : ℕ → EReal) (h1 : v1 (ix2 r ⟨c, by omega⟩) = cs (c % 64))
    (h3 : v3 (ix2 r ⟨c, by omega⟩) = if (c : ℕ) % 32 < 16 then - sn (c % 64) else sn (c % 64))
    (hx : ∀ c : Fin 128, v38 (ix3 0 r c) = x c) : k0_pay17 (k0_pay14 v1) (k0_pay15 v3) v38 (ix2 r c) = rope cs sn x c := by
  unfold k0_pay17 k0_pay14 k0_pay15
  pointwise []
  rw [show Scalar.select (Scalar.cmpi CmpIPredicate.eq 32#32 0#32) 1#32 32#32 = 32#32 from by decide,
    show Scalar.cmpi CmpIPredicate.slt 32#32 0#32 = 0#1 from by decide, half_word ⟨c, by omega⟩, WordCmp.select_ofBool]
  simp only [hx, h1, h3, decide_eq_true_eq]
  rw [← rope_signed]
  congr 2
  split
  · next h => congr 1; omega
  · next h => congr 1; omega

theorem pay20_catt (v75 : Elt Ideal .f32) (v76 : Elt Ideal .f32) (v78 : FVec Ideal S256x64 .bf16) (v79 : Vec Ideal S1x256x64 .bf16) (v81 : Vec Ideal S1x256x64 .bf16) (v83 : Vec Ideal S1x256x64 .bf16)
    (r : Fin 512) (c : Fin 64) (C W : ℕ → EReal) (k : EReal)
    (hc : ∀ j : Fin 256, ∑ x : Fin 64, (if h : (r : ℕ) < 256 then v81 (ix3 0 ⟨r, h⟩ x) else v83 (ix3 0 ⟨r - 256, by omega⟩ x)) * e * v78 (ix2 j x) = C j)
    (hw : ∀ j : Fin 256, v79 (ix3 0 j c) = W j) (hk : (if (r : ℕ) < 256 then v75 else v76) = k) :
    k0_pay20 (iota .tc S512x1 32 [0] iota_S512x1_d0_w32) v75 v76 v78 v79 v81 v83 (ix2 r c) = catt C W k := by
  unfold k0_pay20 k0_pay19
  pointwise []
  rw [show (256#32) = BitVec.ofNat 32 256 from rfl, WordCmp.cmpi_slt_ofNat (by omega) (by omega), WordCmp.select_ofBool]
  simp only [decide_eq_true_eq, hk, e_bf16]
  exact catt_kernel C W k _ _ hc hw _ rfl

theorem pay1_catt (v75 : Elt Ideal .f32) (v76 : Elt Ideal .f32) (v127 : Vec Ideal S1x256x64 .bf16) (v129 : Vec Ideal S1x256x64 .bf16) (v131 : Vec Ideal S1x256x64 .bf16) (v133 : Vec Ideal S1x256x64 .bf16)
    (r : Fin 512) (c : Fin 64) (C W : ℕ → EReal) (k : EReal)
    (hc : ∀ j : Fin 256, ∑ x : Fin 64, (if h : (r : ℕ) < 256 then v131 (ix3 0 ⟨r, h⟩ x) else v133 (ix3 0 ⟨r - 256, by omega⟩ x)) * e * v127 (ix3 0 j x) = C j)
    (hw : ∀ j : Fin 256, v129 (ix3 0 j c) = W j) (hk : (if (r : ℕ) < 256 then v75 else v76) = k) :
    k0_pay1 (k0_pay27 v129) (k0_pay29 (iota .tc S512x1 32 [0] iota_S512x1_d0_w32) v75 v76)
      (k0_pay30 (iota .tc S512x1 32 [0] iota_S512x1_d0_w32) v75 v76 v127 v131 v133)
      (k0_pay31 (iota .tc S512x1 32 [0] iota_S512x1_d0_w32) v75 v76 v127 v131 v133)
      (k0_pay32 (iota .tc S512x1 32 [0] iota_S512x1_d0_w32) v75 v76 v127 v131 v133) (ix2 r c) = catt C W k := by
  unfold k0_pay1 k0_pay27 k0_pay32 k0_pay31 k0_pay30 k0_pay29 k0_pay28 k0_pay26
  pointwise []
  rw [show (256#32) = BitVec.ofNat 32 256 from rfl, WordCmp.cmpi_slt_ofNat (by omega) (by omega), WordCmp.select_ofBool]
  simp only [decide_eq_true_eq, hk, e_bf16]
  exact catt_kernel C W k _ _ hc hw _ rfl

/-- A trip's 256 rows, two heads of 128: rows `128·n` on, heads `2h` and `2h + 1`. -/
theorem trip (p cs sn : ℕ → ℕ → EReal) (sk : ℕ → EReal) (h : ℕ)
    (v78 : FVec Ideal S256x64 .bf16) (v80 : FVec Ideal S256x64 .bf16) (a b : Elt Ideal .f32) (v185 v187 : Vec Ideal S128x64 .bf16)
    (v217 : Vec Ideal S384x64 .bf16) (v244 : Vec Ideal S1x384x64 .bf16) (n : Fin k0_t1_loop.trips)
    (h185 : ∀ (q : Fin 128) (x : Fin 64), v185 (ix2 q x) = qr p cs sn (n * 128 + q) (64 * (2 * h) + x) * e)
    (h187 : ∀ (q : Fin 128) (x : Fin 64), v187 (ix2 q x) = qr p cs sn (n * 128 + q) (64 * (2 * h + 1) + x) * e)
    (h217 : ∀ (j : Fin 384) (x : Fin 64), v217 (ix2 j x) = kr p cs sn (ws n + j) (64 * h + x))
    (h244 : ∀ (j : Fin 384) (x : Fin 64), v244 (ix3 0 j x) = p (256 + (ws n + j)) (2432 + (64 * h + x)))
    (h78 : ∀ (j : Fin 256) (x : Fin 64), v78 (ix2 j x) = p j (2304 + (64 * h + x)))
    (h80 : ∀ (j : Fin 256) (x : Fin 64), v80 (ix2 j x) = p j (2432 + (64 * h + x)))
    (ha : a = sk (2 * h)) (hb : b = sk (2 * h + 1)) (r : Fin 256) (d : Fin 64) :
    k0_pay8 v78 v80 (k0_pay24 (iota .tc S256x1 32 [0] iota_S256x1_d0_w32) a b) (k0_pay6 v185 v187)
      (k0_pay7 (iota .tc S256x1 32 [0] iota_S256x1_d0_w32) (iota .tc S1x384 32 [1] iota_S1x384_d1_w32) 0#32 1#32 n) v217 v244
      (ix2 r d) = latent p cs sn sk (n * 128 + r % 128) (64 * (2 * h + r / 128) + d) := by
  have hn : n.val < 16 := n.isLt
  have e188 : ∀ x : Fin 64, k0_pay6 v185 v187 (ix2 r x) = qr p cs sn (n * 128 + r % 128) (64 * (2 * h + r / 128) + x) * e := fun x => by
    unfold k0_pay6
    pointwise []
    by_cases hr : (r : ℕ) < 128
    · rw [dif_pos hr, h185]
      rw [show (r : ℕ) % 128 = r by omega, show (r : ℕ) / 128 = 0 by omega]; rfl
    · rw [dif_neg hr, h187]
      dsimp only
      rw [show (r : ℕ) % 128 = r - 128 by omega, show (r : ℕ) / 128 = 1 by omega]
  have hh : (64 * (2 * h + r / 128) + d) / 64 = 2 * h + r / 128 := by omega
  have hh2 : (64 * (2 * h + r / 128) + d) / 64 / 2 = h := by omega
  have hd : (64 * (2 * h + r / 128) + d) % 64 = d := by omega
  unfold latent
  rw [hd, hh2, hh]
  refine pay8_att _ _ _ _ _ _ _ r d _ _ _ _ _ (ws n) (by unfold ws; omega) ?_ ?_ ?_ ?_ ?_ ?_
  · intro j
    rw [pay7_apply, WordCmp.select_ofBool]
    unfold S
    simp only [decide_eq_true_eq, e188, h217, show (2 * h + (r : ℕ) / 128) / 2 = h by omega]
  · intro j; exact h244 j d
  · intro j
    unfold C
    simp only [e188, h78, show (2 * h + (r : ℕ) / 128) / 2 = h by omega]
  · intro j; exact h80 j d
  · unfold k0_pay24
    pointwise []
    rw [show (128#32) = BitVec.ofNat 32 128 from rfl, WordCmp.cmpi_slt_ofNat (by omega) (by omega), WordCmp.select_ofBool]
    simp only [decide_eq_true_eq, ha, hb]
    by_cases hr : (r : ℕ) < 128
    · rw [if_pos hr, show (r : ℕ) / 128 = 0 by omega]; rfl
    · rw [if_neg hr, show (r : ℕ) / 128 = 1 by omega]
  · intro i hi ho
    unfold S
    rw [if_neg]
    unfold ws at ho
    omega

/-- The pieces stored: slices of these rows. -/
theorem pay9_apply (v78 : FVec Ideal S256x64 .bf16) (v80 : FVec Ideal S256x64 .bf16) (v123 : FVec Ideal S256x1 .f32) (v188 : FVec Ideal S256x64 .bf16) (v215 : IVec S256x384 1) (v217 : Vec Ideal S384x64 .bf16) (v244 : Vec Ideal S1x384x64 .bf16)
    (q : Fin 128) (d : Fin 64) : k0_pay9 v78 v80 v123 v188 v215 v217 v244 (ix3 0 q d) = k0_pay8 v78 v80 v123 v188 v215 v217 v244 (ix2 ⟨q, by omega⟩ d) := by
  unfold k0_pay9
  pointwise []

theorem pay25_apply (v251 : FVec Ideal S256x64 .f32) (q : Fin 128) (d : Fin 64) : k0_pay25 v251 (ix3 0 q d) = v251 (ix2 ⟨128 + q, by omega⟩ d) := by
  unfold k0_pay25
  pointwise []

theorem pay21_apply (v72 : IVec S512x1 32) (v75 : Elt Ideal .f32) (v76 : Elt Ideal .f32) (v78 : FVec Ideal S256x64 .bf16) (v79 : Vec Ideal S1x256x64 .bf16) (v81 : Vec Ideal S1x256x64 .bf16) (v83 : Vec Ideal S1x256x64 .bf16)
    (r : Fin 256) (d : Fin 64) : k0_pay21 v72 v75 v76 v78 v79 v81 v83 (ix3 0 r d) = k0_pay20 v72 v75 v76 v78 v79 v81 v83 (ix2 ⟨r, by omega⟩ d) := by
  unfold k0_pay21
  pointwise []

theorem pay23_apply (v72 : IVec S512x1 32) (v75 : Elt Ideal .f32) (v76 : Elt Ideal .f32) (v78 : FVec Ideal S256x64 .bf16) (v79 : Vec Ideal S1x256x64 .bf16) (v81 : Vec Ideal S1x256x64 .bf16) (v83 : Vec Ideal S1x256x64 .bf16)
    (r : Fin 256) (d : Fin 64) : k0_pay23 (k0_pay22 v72 v75 v76 v78 v79 v81 v83) (ix3 0 r d) = k0_pay20 v72 v75 v76 v78 v79 v81 v83 (ix2 ⟨256 + r, by omega⟩ d) := by
  unfold k0_pay23 k0_pay22
  pointwise []

theorem pay2_apply (v130 : FVec Ideal S256x64 .bf16) (v143 : FVec Ideal S512x1 .f32) (v146 : FVec Ideal S512x1 .f32) (v149 : FVec Ideal S512x256 .f32) (v150 : FVec Ideal S512 .f32)
    (r : Fin 256) (d : Fin 64) : k0_pay2 v130 v143 v146 v149 v150 (ix3 0 r d) = k0_pay1 v130 v143 v146 v149 v150 (ix2 ⟨r, by omega⟩ d) := by
  unfold k0_pay2
  pointwise []

theorem pay3_apply (v130 : FVec Ideal S256x64 .bf16) (v143 : FVec Ideal S512x1 .f32) (v146 : FVec Ideal S512x1 .f32) (v149 : FVec Ideal S512x256 .f32) (v150 : FVec Ideal S512 .f32)
    (r : Fin 256) (d : Fin 64) : k0_pay3 v130 v143 v146 v149 v150 (ix3 0 r d) = k0_pay1 v130 v143 v146 v149 v150 (ix2 ⟨256 + r, by omega⟩ d) := by
  unfold k0_pay3
  pointwise []

end Cert.Proof.SwaPay

end
-- ==== Proof.SwaTrips.lean ====
/- What the loops of the windowed attention's kernel store: each trip's pieces are entries of one function of the whole block. -/
module

public import proofs.«01_k».proof.Proof.SwaIdealFrame
public import proofs.«01_k».proof.Proof.SwaPay
public import Idealize.ShloMosaic.Lib.Pipeline.ReadBack

@[expose] public section

set_option maxRecDepth 16384

noncomputable section

namespace Cert.Proof.SwaTrips

open Cert.SwaIdeal Cert.SwaIdeal.Gen Cert.SwaIdeal.Own Idealize.ShloMosaic Idealize.ShloMosaic.TcCoe Idealize.SL.Sem Idealize.ShloMosaic.Tactic
open Cert.Proof.SwaMath Cert.Proof.SwaPay

/-- An entry of a slab of a matrix whose entries are `f`. -/
theorem slab2 {n m a b : ℕ} (X : (⟨2, ![n, m]⟩ : Shape).Idx → EReal) (f : ℕ → ℕ → EReal)
    (hX : ∀ (r : Fin n) (c : Fin m), X (ix2 r c) = f r c) (off : Fin 2 → ℕ) (inb) (q : Fin a) (x : Fin b) :
    X ((Rect.unit (s := ⟨2, ![n, m]⟩) off ![a, b] inb).toLoadRect.idx (ix2 q x)) = f (off 0 + q) (off 1 + x) := by
  have h : ∀ y : (⟨2, ![n, m]⟩ : Shape).Idx, X y = f (y 0).val (y 1).val := fun y => by
    rw [← hX (y 0) (y 1)]; congr 1; funext a; match a with
      | ⟨0, _⟩ => rfl
      | ⟨1, _⟩ => rfl
  rw [h]
  congr 1
  · exact ValueKit.rect_emb_unit_val _ _ _ _ _
  · exact ValueKit.rect_emb_unit_val _ _ _ _ _

/-- The same of a block of one matrix. -/
theorem slab3 {n m a b : ℕ} (X : (⟨3, ![1, n, m]⟩ : Shape).Idx → EReal) (f : ℕ → ℕ → EReal)
    (hX : ∀ (r : Fin n) (c : Fin m), X (ix3 0 r c) = f r c) (off : Fin 3 → ℕ) (inb) (q : Fin a) (x : Fin b) :
    X ((Rect.unit (s := ⟨3, ![1, n, m]⟩) off ![1, a, b] inb).toLoadRect.idx (ix3 0 q x)) = f (off 1 + q) (off 2 + x) := by
  have h : ∀ y : (⟨3, ![1, n, m]⟩ : Shape).Idx, X y = f (y 1).val (y 2).val := fun y => by
    rw [← hX (y 1) (y 2)]; congr 1; funext a; match a with
      | ⟨0, _⟩ => exact Fin.ext (by have := (y 0).isLt; dsimp at this; show (y 0).val = 0; omega)
      | ⟨1, _⟩ => rfl
      | ⟨2, _⟩ => rfl
  rw [h]
  congr 1
  · exact ValueKit.rect_emb_unit_val _ _ _ _ _
  · exact ValueKit.rect_emb_unit_val _ _ _ _ _

theorem off1 : ∀ k : Fin 16, k0_off1 k 0 = k.val * 128 ∧ k0_off1 k 1 = 0 ∧ k0_off2 k 0 = k.val * 128 ∧ k0_off2 k 1 = 64
    ∧ k0_off3 k 0 = ws k.val ∧ k0_off3 k 1 = 0 ∧ k0_off4 k 1 = 256 + ws k.val ∧ k0_off4 k 2 = 0
    ∧ k0_off5 k 1 = 256 + k.val * 128 ∧ k0_off5 k 2 = 0 ∧ k0_off6 k 1 = 256 + k.val * 128 ∧ k0_off6 k 2 = 64 := by
  decide +kernel

theorem off2 : ∀ k : Fin 16, k0_off7 k 0 = k.val * 128 ∧ k0_off7 k 1 = 128 ∧ k0_off8 k 0 = k.val * 128 ∧ k0_off8 k 1 = 192
    ∧ k0_off9 k 0 = ws k.val ∧ k0_off9 k 1 = 64 ∧ k0_off10 k 1 = 256 + ws k.val ∧ k0_off10 k 2 = 64
    ∧ k0_off11 k 1 = 256 + k.val * 128 ∧ k0_off11 k 2 = 128 ∧ k0_off12 k 1 = 256 + k.val * 128 ∧ k0_off12 k 2 = 192 := by
  decide +kernel

/-- The block the kernel leaves. -/
def G (p cs sn : ℕ → ℕ → EReal) (sk : ℕ → EReal) (y : S1x2304x256.Idx) : EReal := res p cs sn sk (y 1).val (y 2).val

theorem G_unit {a b : ℕ} (p cs sn : ℕ → ℕ → EReal) (sk : ℕ → EReal) (off : Fin 3 → ℕ) (inb) (q : Fin a) (x : Fin b) :
    G p cs sn sk ((Rect.unit (s := S1x2304x256) off ![1, a, b] inb).emb (ix3 0 q x)) = res p cs sn sk (off 1 + q) (off 2 + x) := by
  unfold G
  congr 1
  · exact ValueKit.rect_emb_unit_val _ _ _ _ _
  · exact ValueKit.rect_emb_unit_val _ _ _ _ _

theorem res_latent (p cs sn : ℕ → ℕ → EReal) (sk : ℕ → EReal) (r c : ℕ) : res p cs sn sk (256 + r) c = latent p cs sn sk r c := by
  unfold res
  rw [if_neg (by omega), show 256 + r - 256 = r by omega]

set_option maxHeartbeats 1000000 in
theorem trip1 (𝒱 : Variants) (c : Dev nD) (bd : Option 𝒱.V) (i : grid0.Coords) (arg1 : Memref sig .tc .vmem S1x2304x256 .bf16) (harg1 : arg1.IsWhole) (arg2 : Memref sig .tc .vmem S1x2304x128 .bf16) (harg2 : arg2.IsWhole) (arg3 : Memref sig .tc .vmem S1x2304x128 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .smem S4 .f32) (harg6 : arg6.IsWhole) (arg7 : Memref sig .tc .vmem S1x2304x256 .bf16) (harg7 : arg7.IsWhole) (arg8 : Memref sig .tc .vmem S2048x256 .bf16) (harg8 : arg8.IsWhole) (arg9 : Memref sig .tc .vmem S2048x128 .bf16) (harg9 : arg9.IsWhole) (v72 : IVec S512x1 32) (a b : Elt Ideal .f32) (v78 : FVec Ideal S256x64 .bf16) (v80 : FVec Ideal S256x64 .bf16) (v115 : FVec Ideal S256x64 .bf16) (v116 : Vec Ideal S1x256x64 .bf16) (X_arg3 : BufTy.Contents (Elt Ideal) arg3.view.ty) (X_arg8 : BufTy.Contents (Elt Ideal) arg8.view.ty) (X_arg9 : BufTy.Contents (Elt Ideal) arg9.view.ty) (k : Fin k0_t1_loop.trips)
    (p cs sn : ℕ → ℕ → EReal) (sk : ℕ → EReal)
    (h3 : ∀ (r : Fin 2304) (c : Fin 128), arg3.view.read (Elt Ideal) X_arg3 (ix3 0 r c) = p r (2432 + c))
    (h8 : ∀ (r : Fin 2048) (c : Fin 256), arg8.view.read (Elt Ideal) X_arg8 (ix2 r c) = qr p cs sn r c * e)
    (h9 : ∀ (r : Fin 2048) (c : Fin 128), arg9.view.read (Elt Ideal) X_arg9 (ix2 r c) = kr p cs sn r c)
    (h78 : ∀ (j : Fin 256) (x : Fin 64), v78 (ix2 j x) = p j (2304 + (64 * 0 + x)))
    (h80 : ∀ (j : Fin 256) (x : Fin 64), v80 (ix2 j x) = p j (2432 + (64 * 0 + x)))
    (ha : a = sk 0) (hb : b = sk 1) :
    ∀ pc ∈ tripL_k0_t1 (F := Ideal) 𝒱 c bd i arg1 harg1 arg2 harg2 arg3 harg3 arg4 harg4 arg5 harg5 arg6 harg6 arg7 harg7 arg8 harg8 arg9 harg9 v72 (iota .tc S256x1 32 [0] iota_S256x1_d0_w32) (iota .tc S1x384 32 [1] iota_S1x384_d1_w32) a b v78 v80 v115 v116 X_arg3 X_arg8 X_arg9 k, ∀ x, pc.2 x = G p cs sn sk (pc.1.emb x) := by
  obtain ⟨o10, o11, o20, o21, o30, o31, o41, o42, o51, o52, o61, o62⟩ := off1 k
  unfold tripL_k0_t1 trip_k0_t1
  dsimp only
  sl_unfold_run_names
  dsimp only
  simp only [List.forall_mem_cons, List.not_mem_nil, false_imp_iff, implies_true, and_true]
  have key := trip p cs sn sk 0 v78 v80 a b
    (View.readAt (Elt Ideal) arg8.view (Rect.unit (s := S2048x256) (k0_off1 k) S128x64.size (Facts₀.k0_off1_inb k)).toLoadRect X_arg8)
    (View.readAt (Elt Ideal) arg8.view (Rect.unit (s := S2048x256) (k0_off2 k) S128x64.size (Facts₀.k0_off2_inb k)).toLoadRect X_arg8)
    (View.readAt (Elt Ideal) arg9.view (Rect.unit (s := S2048x128) (k0_off3 k) S384x64.size (Facts₀.k0_off3_inb k)).toLoadRect X_arg9)
    (View.readAt (Elt Ideal) arg3.view (Rect.unit (s := S1x2304x128) (k0_off4 k) S1x384x64.size (Facts₀.k0_off4_inb k)).toLoadRect X_arg3) k
    (fun q x => by
      rw [View.readAt_apply]
      refine (slab2 _ (fun r c => qr p cs sn r c * e) h8 (k0_off1 k) (Facts₀.k0_off1_inb k) q x).trans ?_
      rw [o10, o11, show 64 * (2 * 0) + x.val = 0 + x.val by omega])
    (fun q x => by
      rw [View.readAt_apply]
      refine (slab2 _ (fun r c => qr p cs sn r c * e) h8 (k0_off2 k) (Facts₀.k0_off2_inb k) q x).trans ?_
      rw [o20, o21])
    (fun q x => by
      rw [View.readAt_apply]
      refine (slab2 _ (kr p cs sn) h9 (k0_off3 k) (Facts₀.k0_off3_inb k) q x).trans ?_
      rw [o30, o31])
    (fun q x => by
      rw [View.readAt_apply]
      refine (slab3 _ (fun r c => p r (2432 + c)) h3 (k0_off4 k) (Facts₀.k0_off4_inb k) q x).trans ?_
      rw [o41, o42]; congr 1; omega)
    h78 h80 ha hb
  constructor
  · intro x
    idx_vars x
    obtain rfl : x0 = 0 := Subsingleton.elim _ _
    refine (pay25_apply _ x1 x2).trans ((key ⟨128 + x1, by omega⟩ x2).trans (Eq.trans ?_ (G_unit p cs sn sk (k0_off6 k) (Facts₀.k0_off6_inb k) x1 x2).symm))
    rw [o61, o62, show 256 + k.val * 128 + x1.val = 256 + (k.val * 128 + x1.val) by omega, res_latent]
    dsimp only
    rw [show (128 + x1.val) % 128 = x1 by omega, show (128 + x1.val) / 128 = 1 by omega]
  · intro x
    idx_vars x
    obtain rfl : x0 = 0 := Subsingleton.elim _ _
    refine (pay9_apply _ _ _ _ _ _ _ x1 x2).trans ((key ⟨x1, by omega⟩ x2).trans (Eq.trans ?_ (G_unit p cs sn sk (k0_off5 k) (Facts₀.k0_off5_inb k) x1 x2).symm))
    rw [o51, o52, show 256 + k.val * 128 + x1.val = 256 + (k.val * 128 + x1.val) by omega, res_latent]
    dsimp only
    rw [show x1.val % 128 = x1 by omega, show x1.val / 128 = 0 by omega]

set_option maxHeartbeats 1000000 in
theorem trip2 (𝒱 : Variants) (c : Dev nD) (bd : Option 𝒱.V) (i : grid0.Coords) (arg1 : Memref sig .tc .vmem S1x2304x256 .bf16) (harg1 : arg1.IsWhole) (arg2 : Memref sig .tc .vmem S1x2304x128 .bf16) (harg2 : arg2.IsWhole) (arg3 : Memref sig .tc .vmem S1x2304x128 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .smem S4 .f32) (harg6 : arg6.IsWhole) (arg7 : Memref sig .tc .vmem S1x2304x256 .bf16) (harg7 : arg7.IsWhole) (arg8 : Memref sig .tc .vmem S2048x256 .bf16) (harg8 : arg8.IsWhole) (arg9 : Memref sig .tc .vmem S2048x128 .bf16) (harg9 : arg9.IsWhole) (a b : Elt Ideal .f32) (v78 : FVec Ideal S256x64 .bf16) (v80 : FVec Ideal S256x64 .bf16) (X_arg3 : BufTy.Contents (Elt Ideal) arg3.view.ty) (X_arg8 : BufTy.Contents (Elt Ideal) arg8.view.ty) (X_arg9 : BufTy.Contents (Elt Ideal) arg9.view.ty) (k : Fin k0_t2_loop.trips)
    (p cs sn : ℕ → ℕ → EReal) (sk : ℕ → EReal)
    (h3 : ∀ (r : Fin 2304) (c : Fin 128), arg3.view.read (Elt Ideal) X_arg3 (ix3 0 r c) = p r (2432 + c))
    (h8 : ∀ (r : Fin 2048) (c : Fin 256), arg8.view.read (Elt Ideal) X_arg8 (ix2 r c) = qr p cs sn r c * e)
    (h9 : ∀ (r : Fin 2048) (c : Fin 128), arg9.view.read (Elt Ideal) X_arg9 (ix2 r c) = kr p cs sn r c)
    (h78 : ∀ (j : Fin 256) (x : Fin 64), v78 (ix2 j x) = p j (2304 + (64 * 1 + x)))
    (h80 : ∀ (j : Fin 256) (x : Fin 64), v80 (ix2 j x) = p j (2432 + (64 * 1 + x)))
    (ha : a = sk 2) (hb : b = sk 3) :
    ∀ pc ∈ tripL_k0_t2 (F := Ideal) 𝒱 c bd i arg1 harg1 arg2 harg2 arg3 harg3 arg4 harg4 arg5 harg5 arg6 harg6 arg7 harg7 arg8 harg8 arg9 harg9 (iota .tc S256x1 32 [0] iota_S256x1_d0_w32) (iota .tc S1x384 32 [1] iota_S1x384_d1_w32) a b v78 v80 X_arg3 X_arg8 X_arg9 k, ∀ x, pc.2 x = G p cs sn sk (pc.1.emb x) := by
  obtain ⟨o10, o11, o20, o21, o30, o31, o41, o42, o51, o52, o61, o62⟩ := off2 k
  unfold tripL_k0_t2 trip_k0_t2
  dsimp only
  sl_unfold_run_names
  dsimp only
  simp only [List.forall_mem_cons, List.not_mem_nil, false_imp_iff, implies_true, and_true]
  have key := trip p cs sn sk 1 v78 v80 a b
    (View.readAt (Elt Ideal) arg8.view (Rect.unit (s := S2048x256) (k0_off7 k) S128x64.size (Facts₀.k0_off7_inb k)).toLoadRect X_arg8)
    (View.readAt (Elt Ideal) arg8.view (Rect.unit (s := S2048x256) (k0_off8 k) S128x64.size (Facts₀.k0_off8_inb k)).toLoadRect X_arg8)
    (View.readAt (Elt Ideal) arg9.view (Rect.unit (s := S2048x128) (k0_off9 k) S384x64.size (Facts₀.k0_off9_inb k)).toLoadRect X_arg9)
    (View.readAt (Elt Ideal) arg3.view (Rect.unit (s := S1x2304x128) (k0_off10 k) S1x384x64.size (Facts₀.k0_off10_inb k)).toLoadRect X_arg3) k
    (fun q x => by
      rw [View.readAt_apply]
      refine (slab2 _ (fun r c => qr p cs sn r c * e) h8 (k0_off7 k) (Facts₀.k0_off7_inb k) q x).trans ?_
      rw [o10, o11, show 64 * (2 * 1) + x.val = 128 + x.val by omega])
    (fun q x => by
      rw [View.readAt_apply]
      refine (slab2 _ (fun r c => qr p cs sn r c * e) h8 (k0_off8 k) (Facts₀.k0_off8_inb k) q x).trans ?_
      rw [o20, o21])
    (fun q x => by
      rw [View.readAt_apply]
      refine (slab2 _ (kr p cs sn) h9 (k0_off9 k) (Facts₀.k0_off9_inb k) q x).trans ?_
      rw [o30, o31])
    (fun q x => by
      rw [View.readAt_apply]
      refine (slab3 _ (fun r c => p r (2432 + c)) h3 (k0_off10 k) (Facts₀.k0_off10_inb k) q x).trans ?_
      rw [o41, o42]; congr 1; omega)
    h78 h80 ha hb
  constructor
  · intro x
    idx_vars x
    obtain rfl : x0 = 0 := Subsingleton.elim _ _
    refine (pay25_apply _ x1 x2).trans ((key ⟨128 + x1, by omega⟩ x2).trans (Eq.trans ?_ (G_unit p cs sn sk (k0_off12 k) (Facts₀.k0_off12_inb k) x1 x2).symm))
    rw [o61, o62, show 256 + k.val * 128 + x1.val = 256 + (k.val * 128 + x1.val) by omega, res_latent]
    dsimp only
    rw [show (128 + x1.val) % 128 = x1 by omega, show (128 + x1.val) / 128 = 1 by omega]
  · intro x
    idx_vars x
    obtain rfl : x0 = 0 := Subsingleton.elim _ _
    refine (pay9_apply _ _ _ _ _ _ _ x1 x2).trans ((key ⟨x1, by omega⟩ x2).trans (Eq.trans ?_ (G_unit p cs sn sk (k0_off11 k) (Facts₀.k0_off11_inb k) x1 x2).symm))
    rw [o51, o52, show 256 + k.val * 128 + x1.val = 256 + (k.val * 128 + x1.val) by omega, res_latent]
    dsimp only
    rw [show x1.val % 128 = x1 by omega, show x1.val / 128 = 0 by omega]

/-- All the trips' pieces. -/
theorem pieces1 (𝒱 : Variants) (c : Dev nD) (bd : Option 𝒱.V) (i : grid0.Coords) (arg1 : Memref sig .tc .vmem S1x2304x256 .bf16) (harg1 : arg1.IsWhole) (arg2 : Memref sig .tc .vmem S1x2304x128 .bf16) (harg2 : arg2.IsWhole) (arg3 : Memref sig .tc .vmem S1x2304x128 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .smem S4 .f32) (harg6 : arg6.IsWhole) (arg7 : Memref sig .tc .vmem S1x2304x256 .bf16) (harg7 : arg7.IsWhole) (arg8 : Memref sig .tc .vmem S2048x256 .bf16) (harg8 : arg8.IsWhole) (arg9 : Memref sig .tc .vmem S2048x128 .bf16) (harg9 : arg9.IsWhole) (v72 : IVec S512x1 32) (a b : Elt Ideal .f32) (v78 : FVec Ideal S256x64 .bf16) (v80 : FVec Ideal S256x64 .bf16) (v115 : FVec Ideal S256x64 .bf16) (X_arg3 : BufTy.Contents (Elt Ideal) arg3.view.ty) (X_arg8 : BufTy.Contents (Elt Ideal) arg8.view.ty) (X_arg9 : BufTy.Contents (Elt Ideal) arg9.view.ty) (k : ℕ)
    (p cs sn : ℕ → ℕ → EReal) (sk : ℕ → EReal)
    (h3 : ∀ (r : Fin 2304) (c : Fin 128), arg3.view.read (Elt Ideal) X_arg3 (ix3 0 r c) = p r (2432 + c))
    (h8 : ∀ (r : Fin 2048) (c : Fin 256), arg8.view.read (Elt Ideal) X_arg8 (ix2 r c) = qr p cs sn r c * e)
    (h9 : ∀ (r : Fin 2048) (c : Fin 128), arg9.view.read (Elt Ideal) X_arg9 (ix2 r c) = kr p cs sn r c)
    (h78 : ∀ (j : Fin 256) (x : Fin 64), v78 (ix2 j x) = p j (2304 + (64 * 0 + x)))
    (h80 : ∀ (j : Fin 256) (x : Fin 64), v80 (ix2 j x) = p j (2432 + (64 * 0 + x)))
    (ha : a = sk 0) (hb : b = sk 1) :
    ∀ pc ∈ pb (F := Ideal) 𝒱 c bd i arg1 harg1 arg2 harg2 arg3 harg3 arg4 harg4 arg5 harg5 arg6 harg6 arg7 harg7 arg8 harg8 arg9 harg9 v72 (iota .tc S256x1 32 [0] iota_S256x1_d0_w32) (iota .tc S1x384 32 [1] iota_S1x384_d1_w32) a b v78 v80 v115 X_arg3 X_arg8 X_arg9 k, ∀ x, pc.2 x = G p cs sn sk (pc.1.emb x) := by
  unfold pb
  induction k with
  | zero => rw [pb_k0_t1.eq_1]; intro pc h; simp at h
  | succ k ih =>
    rw [pb_k0_t1.eq_2]; unfold pb_k0_t1Step
    split
    · intro pc h
      rcases List.mem_append.1 h with h | h
      · exact trip1 𝒱 c bd i arg1 harg1 arg2 harg2 arg3 harg3 arg4 harg4 arg5 harg5 arg6 harg6 arg7 harg7 arg8 harg8 arg9 harg9 v72 a b v78 v80 v115 _ X_arg3 X_arg8 X_arg9 _ p cs sn sk h3 h8 h9 h78 h80 ha hb pc h
      · exact ih pc h
    · exact ih

theorem pieces2 (𝒱 : Variants) (c : Dev nD) (bd : Option 𝒱.V) (i : grid0.Coords) (arg1 : Memref sig .tc .vmem S1x2304x256 .bf16) (harg1 : arg1.IsWhole) (arg2 : Memref sig .tc .vmem S1x2304x128 .bf16) (harg2 : arg2.IsWhole) (arg3 : Memref sig .tc .vmem S1x2304x128 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .smem S4 .f32) (harg6 : arg6.IsWhole) (arg7 : Memref sig .tc .vmem S1x2304x256 .bf16) (harg7 : arg7.IsWhole) (arg8 : Memref sig .tc .vmem S2048x256 .bf16) (harg8 : arg8.IsWhole) (arg9 : Memref sig .tc .vmem S2048x128 .bf16) (harg9 : arg9.IsWhole) (a b : Elt Ideal .f32) (v78 : FVec Ideal S256x64 .bf16) (v80 : FVec Ideal S256x64 .bf16) (X_arg3 : BufTy.Contents (Elt Ideal) arg3.view.ty) (X_arg8 : BufTy.Contents (Elt Ideal) arg8.view.ty) (X_arg9 : BufTy.Contents (Elt Ideal) arg9.view.ty) (k : ℕ)
    (p cs sn : ℕ → ℕ → EReal) (sk : ℕ → EReal)
    (h3 : ∀ (r : Fin 2304) (c : Fin 128), arg3.view.read (Elt Ideal) X_arg3 (ix3 0 r c) = p r (2432 + c))
    (h8 : ∀ (r : Fin 2048) (c : Fin 256), arg8.view.read (Elt Ideal) X_arg8 (ix2 r c) = qr p cs sn r c * e)
    (h9 : ∀ (r : Fin 2048) (c : Fin 128), arg9.view.read (Elt Ideal) X_arg9 (ix2 r c) = kr p cs sn r c)
    (h78 : ∀ (j : Fin 256) (x : Fin 64), v78 (ix2 j x) = p j (2304 + (64 * 1 + x)))
    (h80 : ∀ (j : Fin 256) (x : Fin 64), v80 (ix2 j x) = p j (2432 + (64 * 1 + x)))
    (ha : a = sk 2) (hb : b = sk 3) :
    ∀ pc ∈ pb_k0_t2 (F := Ideal) 𝒱 c bd i arg1 harg1 arg2 harg2 arg3 harg3 arg4 harg4 arg5 harg5 arg6 harg6 arg7 harg7 arg8 harg8 arg9 harg9 (iota .tc S256x1 32 [0] iota_S256x1_d0_w32) (iota .tc S1x384 32 [1] iota_S1x384_d1_w32) a b v78 v80 X_arg3 X_arg8 X_arg9 k, ∀ x, pc.2 x = G p cs sn sk (pc.1.emb x) := by
  induction k with
  | zero => rw [pb_k0_t2.eq_1]; intro pc h; simp at h
  | succ k ih =>
    rw [pb_k0_t2.eq_2]; unfold pb_k0_t2Step
    split
    · intro pc h
      rcases List.mem_append.1 h with h | h
      · exact trip2 𝒱 c bd i arg1 harg1 arg2 harg2 arg3 harg3 arg4 harg4 arg5 harg5 arg6 harg6 arg7 harg7 arg8 harg8 arg9 harg9 a b v78 v80 X_arg3 X_arg8 X_arg9 _ p cs sn sk h3 h8 h9 h78 h80 ha hb pc h
      · exact ih pc h
    · exact ih

end Cert.Proof.SwaTrips

end
-- ==== Proof.SwaKernelValue.lean ====
/- The block the windowed attention's kernel leaves, entry by entry. -/
module

public import proofs.«01_k».proof.Proof.SwaTrips

@[expose] public section

set_option maxRecDepth 16384

noncomputable section

namespace Cert.Proof.SwaKernelValue

open Cert.SwaIdeal Cert.SwaIdeal.Gen Cert.SwaIdeal.Own Idealize.ShloMosaic Idealize.ShloMosaic.TcCoe Idealize.SL.Sem Idealize.ShloMosaic.Tactic
open Cert.Proof.SwaMath Cert.Proof.SwaPay Cert.Proof.SwaTrips

/-- A word of a staged vector, loaded alone. -/
theorem word (arg6 : Memref sig .tc .smem S4 .f32) (harg6 : arg6.IsWhole) (x5 : Vec Ideal S4 .f32) (sk : ℕ → EReal)
    (h5 : ∀ h : Fin 4, x5 (ix1 h) = sk h) (n : ℕ) (inb) (h) :
    View.readAt (Elt Ideal) arg6.view (Rect.unit (s := S4) ![n] S1.size inb).toLoadRect (harg6.unread x5) (Shape.Idx.first h) = sk n := by
  rw [View.readAt_apply, Memref.IsWhole.read_unread]
  have e : ∀ y : S4.Idx, x5 y = sk (y 0).val := fun y => by
    rw [← h5 (y 0)]; congr 1; funext a; match a with
      | ⟨0, _⟩ => rfl
  rw [e]
  congr 1

/-- A slab of a staged block. -/
theorem load3 {n m a b : ℕ} (arg : Memref sig .tc .vmem ⟨3, ![1, n, m]⟩ .bf16) (harg : arg.IsWhole)
    (X : Vec Ideal ⟨3, ![1, n, m]⟩ .bf16) (f : ℕ → ℕ → EReal) (hX : ∀ (r : Fin n) (c : Fin m), X (ix3 0 r c) = f r c)
    (off : Fin 3 → ℕ) (inb) (q : Fin a) (x : Fin b) :
    View.readAt (Elt Ideal) arg.view (Rect.unit (s := ⟨3, ![1, n, m]⟩) off ![1, a, b] inb).toLoadRect (harg.unread X) (ix3 0 q x)
      = f (off 1 + q) (off 2 + x) := by
  rw [View.readAt_apply, Memref.IsWhole.read_unread]
  exact slab3 X f hX off inb q x

theorem load2 {n m a b : ℕ} (arg : Memref sig .tc .vmem ⟨2, ![n, m]⟩ .f32) (harg : arg.IsWhole)
    (X : Vec Ideal ⟨2, ![n, m]⟩ .f32) (f : ℕ → ℕ → EReal) (hX : ∀ (r : Fin n) (c : Fin m), X (ix2 r c) = f r c)
    (off : Fin 2 → ℕ) (inb) (q : Fin a) (x : Fin b) :
    View.readAt (Elt Ideal) arg.view (Rect.unit (s := ⟨2, ![n, m]⟩) off ![a, b] inb).toLoadRect (harg.unread X) (ix2 q x)
      = f (off 0 + q) (off 1 + x) := by
  rw [View.readAt_apply, Memref.IsWhole.read_unread]
  exact slab2 X f hX off inb q x

/-- The logits of two heads' context rows, one under the other. -/
theorem logits (p : ℕ → ℕ → EReal) (h : ℕ) (A B : Vec Ideal S1x256x64 .bf16) (K : Fin 256 → Fin 64 → EReal)
    (hA : ∀ (q : Fin 256) (x : Fin 64), A (ix3 0 q x) = p q (2048 + (64 * (2 * h) + x)))
    (hB : ∀ (q : Fin 256) (x : Fin 64), B (ix3 0 q x) = p q (2048 + (64 * (2 * h + 1) + x)))
    (hK : ∀ (j : Fin 256) (x : Fin 64), K j x = p j (2304 + (64 * h + x))) (r : Fin 512) (j : Fin 256) :
    ∑ x : Fin 64, (if hr : (r : ℕ) < 256 then A (ix3 0 ⟨r, hr⟩ x) else B (ix3 0 ⟨r - 256, by omega⟩ x)) * e * K j x
      = C' p (2 * h + r / 256) (r % 256) j := by
  unfold C'
  refine Finset.sum_congr rfl fun x _ => ?_
  rw [hK, show (2 * h + (r : ℕ) / 256) / 2 = h by omega]
  by_cases hr : (r : ℕ) < 256
  · rw [dif_pos hr, hA, show (r : ℕ) % 256 = r by omega, show (r : ℕ) / 256 = 0 by omega]; rfl
  · rw [dif_neg hr, hB, show (r : ℕ) % 256 = r - 256 by omega, show (r : ℕ) / 256 = 1 by omega]

theorem context_eq (p cs sn : ℕ → ℕ → EReal) (sk : ℕ → EReal) (h : ℕ) (r : Fin 512) (d : Fin 64) :
    catt (C' p (2 * h + r / 256) (r % 256)) (fun j => p j (2432 + (64 * h + d))) (sk (2 * h + r / 256))
      = res p cs sn sk (r % 256) (64 * (2 * h + r / 256) + d) := by
  unfold res context
  rw [if_pos (by omega), show (64 * (2 * h + (r : ℕ) / 256) + d) / 64 = 2 * h + r / 256 by omega,
    show (2 * h + (r : ℕ) / 256) / 2 = h by omega, show (64 * (2 * h + (r : ℕ) / 256) + d) % 64 = d by omega]

set_option maxHeartbeats 2000000 in
theorem out_apply (c : Dev nD) (i : grid0.Coords) (arg1 : Memref sig .tc .vmem S1x2304x256 .bf16) (harg1 : arg1.IsWhole) (arg2 : Memref sig .tc .vmem S1x2304x128 .bf16) (harg2 : arg2.IsWhole) (arg3 : Memref sig .tc .vmem S1x2304x128 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .smem S4 .f32) (harg6 : arg6.IsWhole) (arg7 : Memref sig .tc .vmem S1x2304x256 .bf16) (harg7 : arg7.IsWhole) (arg8 : Memref sig .tc .vmem S2048x256 .bf16) (harg8 : arg8.IsWhole) (arg9 : Memref sig .tc .vmem S2048x128 .bf16) (harg9 : arg9.IsWhole)
    (X0 : Vec Ideal S1x2304x256 .bf16) (X1 : Vec Ideal S1x2304x128 .bf16) (X2 : Vec Ideal S1x2304x128 .bf16) (X3 : Vec Ideal S2048x256 .f32) (X4 : Vec Ideal S2048x256 .f32) (X5 : Vec Ideal S4 .f32)
    (p cs sn : ℕ → ℕ → EReal) (sk : ℕ → EReal)
    (h0 : ∀ (r : Fin 2304) (c : Fin 256), X0 (ix3 0 r c) = p r (2048 + c))
    (h1 : ∀ (r : Fin 2304) (c : Fin 128), X1 (ix3 0 r c) = p r (2304 + c))
    (h2 : ∀ (r : Fin 2304) (c : Fin 128), X2 (ix3 0 r c) = p r (2432 + c))
    (h3 : ∀ (r : Fin 2048) (c : Fin 256), X3 (ix2 r c) = cs r (c % 64))
    (h4 : ∀ (r : Fin 2048) (c : Fin 256), X4 (ix2 r c) = if (c : ℕ) % 32 < 16 then - sn r (c % 64) else sn r (c % 64))
    (h5 : ∀ h : Fin 4, X5 (ix1 h) = sk h) (y : S1x2304x256.Idx) :
    out0_A_6 (F := Ideal) c i arg1 harg1 arg2 harg2 arg3 harg3 arg4 harg4 arg5 harg5 arg6 harg6 arg7 harg7 arg8 harg8 arg9 harg9 X0 X1 X2 X3 X4 X5 y = G p cs sn sk y := by
  unfold out0_A_6
  rw [View.read_writes_junk_eq_canon]
  refine View.canon_apply_of_pieces (G p cs sn sk) _ ?_ y (cover0_A_6 c i arg1 harg1 arg2 harg2 arg3 harg3 arg4 harg4 arg5 harg5 arg6 harg6 arg7 harg7 arg8 harg8 arg9 harg9 X0 X1 X2 X3 X4 X5 y)
  unfold kernelRun0_A
  dsimp only
  sl_unfold_run_names
  dsimp only
  have H3 : ∀ (r : Fin 2304) (c : Fin 128), arg3.view.read (Elt Ideal) (harg3.unread X2) (ix3 0 r c) = p r (2432 + c) := fun r c => by
    rw [Memref.IsWhole.read_unread]; exact h2 r c
  intro pc hpc
  rcases List.mem_append.1 hpc with hpc | hpc
  · refine pieces2 _ _ _ _ arg1 harg1 arg2 harg2 arg3 harg3 arg4 harg4 arg5 harg5 arg6 harg6 arg7 harg7 arg8 harg8 arg9 harg9 _ _ _ _ _ _ _ _ p cs sn sk H3 ?_ ?_ ?_ ?_ ?_ ?_ pc hpc
    · intro r c
      refine (congrFun (View.read_writes_junk_eq_canon _ _) _).trans ?_
      refine (congrFun (View.canon_unit_zero (by funext a; match a with | ⟨0, _⟩ => rfl | ⟨1, _⟩ => rfl) _ _) _).trans ?_
      exact pay16_apply _ _ _ r c (cs r) (sn r) (fun c => p (256 + r) (2048 + c))
        ((load2 arg4 harg4 X3 (fun r c => cs r (c % 64)) h3 _ _ r c).trans (by simp))
        ((load2 arg5 harg5 X4 (fun r c => if c % 32 < 16 then - sn r (c % 64) else sn r (c % 64)) h4 _ _ r c).trans (by simp))
        (fun c => (load3 arg1 harg1 X0 (fun r c => p r (2048 + c)) h0 _ _ r c).trans (by simp))
    · intro r c
      refine (congrFun (View.read_writes_junk_eq_canon _ _) _).trans ?_
      refine (congrFun (View.canon_unit_zero (by funext a; match a with | ⟨0, _⟩ => rfl | ⟨1, _⟩ => rfl) _ _) _).trans ?_
      exact pay17_apply _ _ _ r c (cs r) (sn r) (fun c => p (256 + r) (2304 + c))
        ((load2 arg4 harg4 X3 (fun r c => cs r (c % 64)) h3 _ _ r ⟨c, by omega⟩).trans (by simp))
        ((load2 arg5 harg5 X4 (fun r c => if c % 32 < 16 then - sn r (c % 64) else sn r (c % 64)) h4 _ _ r ⟨c, by omega⟩).trans (by simp))
        (fun c => (load3 arg2 harg2 X1 (fun r c => p r (2304 + c)) h1 _ _ r c).trans (by simp))
    · exact fun j x => (by unfold k0_pay26; pointwise []; exact (load3 arg2 harg2 X1 (fun r c => p r (2304 + c)) h1 ![0, 0, 64] _ j x).trans (by simp))
    · exact fun j x => (by unfold k0_pay27; pointwise []; exact (load3 arg3 harg3 X2 (fun r c => p r (2432 + c)) h2 ![0, 0, 64] _ j x).trans (by simp))
    · exact word arg6 harg6 X5 sk h5 2 _ _
    · exact word arg6 harg6 X5 sk h5 3 _ _
  rcases List.mem_cons.1 hpc with rfl | hpc
  · intro x
    idx_vars x
    obtain rfl : x0 = 0 := Subsingleton.elim _ _
    refine (pay3_apply _ _ _ _ _ x1 x2).trans ((pay1_catt _ _ _ _ _ _ ⟨256 + x1, by omega⟩ x2 _ _ _
      (logits p 1 _ _ (fun j x => _) (fun q x => (load3 arg1 harg1 X0 (fun r c => p r (2048 + c)) h0 ![0, 0, 128] _ q x).trans (by simp)) (fun q x => (load3 arg1 harg1 X0 (fun r c => p r (2048 + c)) h0 ![0, 0, 192] _ q x).trans (by simp)) (fun j x => (load3 arg2 harg2 X1 (fun r c => p r (2304 + c)) h1 ![0, 0, 64] _ j x).trans (by simp)) ⟨256 + x1, by omega⟩)
      (fun j => (load3 arg3 harg3 X2 (fun r c => p r (2432 + c)) h2 ![0, 0, 64] _ j x2).trans (by simp)) ?_).trans ((context_eq p cs sn sk 1 ⟨256 + x1, by omega⟩ x2).trans (Eq.trans ?_ (G_unit p cs sn sk ![0, 0, 192] _ x1 x2).symm)))
    · rw [if_neg (by dsimp only; omega), show sk (2 * 1 + ((⟨256 + x1, by omega⟩ : Fin 512) : ℕ) / 256) = sk 3 by congr 1; dsimp only; omega]
      exact word arg6 harg6 X5 sk h5 3 _ _
    · congr 1
      · show (256 + x1.val) % 256 = 0 + x1.val; omega
      · show 64 * (2 * 1 + (256 + x1.val) / 256) + x2.val = 192 + x2.val; omega
  rcases List.mem_cons.1 hpc with rfl | hpc
  · intro x
    idx_vars x
    obtain rfl : x0 = 0 := Subsingleton.elim _ _
    refine (pay2_apply _ _ _ _ _ x1 x2).trans ((pay1_catt _ _ _ _ _ _ ⟨x1, by omega⟩ x2 _ _ _
      (logits p 1 _ _ (fun j x => _) (fun q x => (load3 arg1 harg1 X0 (fun r c => p r (2048 + c)) h0 ![0, 0, 128] _ q x).trans (by simp)) (fun q x => (load3 arg1 harg1 X0 (fun r c => p r (2048 + c)) h0 ![0, 0, 192] _ q x).trans (by simp)) (fun j x => (load3 arg2 harg2 X1 (fun r c => p r (2304 + c)) h1 ![0, 0, 64] _ j x).trans (by simp)) ⟨x1, by omega⟩)
      (fun j => (load3 arg3 harg3 X2 (fun r c => p r (2432 + c)) h2 ![0, 0, 64] _ j x2).trans (by simp)) ?_).trans ((context_eq p cs sn sk 1 ⟨x1, by omega⟩ x2).trans (Eq.trans ?_ (G_unit p cs sn sk ![0, 0, 128] _ x1 x2).symm)))
    · rw [if_pos (by dsimp only; omega), show sk (2 * 1 + ((⟨x1, by omega⟩ : Fin 512) : ℕ) / 256) = sk 2 by congr 1; dsimp only; omega]
      exact word arg6 harg6 X5 sk h5 2 _ _
    · congr 1
      · show (x1.val) % 256 = 0 + x1.val; omega
      · show 64 * (2 * 1 + (x1.val) / 256) + x2.val = 128 + x2.val; omega
  rcases List.mem_append.1 hpc with hpc | hpc
  · refine pieces1 _ _ _ _ arg1 harg1 arg2 harg2 arg3 harg3 arg4 harg4 arg5 harg5 arg6 harg6 arg7 harg7 arg8 harg8 arg9 harg9 _ _ _ _ _ _ _ _ _ _ p cs sn sk H3 ?_ ?_ ?_ ?_ ?_ ?_ pc hpc
    · intro r c
      refine (congrFun (View.read_writes_junk_eq_canon _ _) _).trans ?_
      refine (congrFun (View.canon_unit_zero (by funext a; match a with | ⟨0, _⟩ => rfl | ⟨1, _⟩ => rfl) _ _) _).trans ?_
      exact pay16_apply _ _ _ r c (cs r) (sn r) (fun c => p (256 + r) (2048 + c))
        ((load2 arg4 harg4 X3 (fun r c => cs r (c % 64)) h3 _ _ r c).trans (by simp))
        ((load2 arg5 harg5 X4 (fun r c => if c % 32 < 16 then - sn r (c % 64) else sn r (c % 64)) h4 _ _ r c).trans (by simp))
        (fun c => (load3 arg1 harg1 X0 (fun r c => p r (2048 + c)) h0 _ _ r c).trans (by simp))
    · intro r c
      refine (congrFun (View.read_writes_junk_eq_canon _ _) _).trans ?_
      refine (congrFun (View.canon_unit_zero (by funext a; match a with | ⟨0, _⟩ => rfl | ⟨1, _⟩ => rfl) _ _) _).trans ?_
      exact pay17_apply _ _ _ r c (cs r) (sn r) (fun c => p (256 + r) (2304 + c))
        ((load2 arg4 harg4 X3 (fun r c => cs r (c % 64)) h3 _ _ r ⟨c, by omega⟩).trans (by simp))
        ((load2 arg5 harg5 X4 (fun r c => if c % 32 < 16 then - sn r (c % 64) else sn r (c % 64)) h4 _ _ r ⟨c, by omega⟩).trans (by simp))
        (fun c => (load3 arg2 harg2 X1 (fun r c => p r (2304 + c)) h1 _ _ r c).trans (by simp))
    · exact fun j x => (by unfold k0_pay18; pointwise []; exact (load3 arg2 harg2 X1 (fun r c => p r (2304 + c)) h1 ![0, 0, 0] _ j x).trans (by simp))
    · exact fun j x => (by unfold k0_pay19; pointwise []; exact (load3 arg3 harg3 X2 (fun r c => p r (2432 + c)) h2 ![0, 0, 0] _ j x).trans (by simp))
    · exact word arg6 harg6 X5 sk h5 0 _ _
    · exact word arg6 harg6 X5 sk h5 1 _ _
  rcases List.mem_cons.1 hpc with rfl | hpc
  · intro x
    idx_vars x
    obtain rfl : x0 = 0 := Subsingleton.elim _ _
    refine (pay23_apply _ _ _ _ _ _ _ x1 x2).trans ((pay20_catt _ _ _ _ _ _ ⟨256 + x1, by omega⟩ x2 _ _ _
      (logits p 0 _ _ (fun j x => _) (fun q x => (load3 arg1 harg1 X0 (fun r c => p r (2048 + c)) h0 ![0, 0, 0] _ q x).trans (by simp)) (fun q x => (load3 arg1 harg1 X0 (fun r c => p r (2048 + c)) h0 ![0, 0, 64] _ q x).trans (by simp)) (fun j x => (by unfold k0_pay18; pointwise []; exact (load3 arg2 harg2 X1 (fun r c => p r (2304 + c)) h1 ![0, 0, 0] _ j x).trans (by simp))) ⟨256 + x1, by omega⟩)
      (fun j => (load3 arg3 harg3 X2 (fun r c => p r (2432 + c)) h2 ![0, 0, 0] _ j x2).trans (by simp)) ?_).trans ((context_eq p cs sn sk 0 ⟨256 + x1, by omega⟩ x2).trans (Eq.trans ?_ (G_unit p cs sn sk ![0, 0, 64] _ x1 x2).symm)))
    · rw [if_neg (by dsimp only; omega), show sk (2 * 0 + ((⟨256 + x1, by omega⟩ : Fin 512) : ℕ) / 256) = sk 1 by congr 1; dsimp only; omega]
      exact word arg6 harg6 X5 sk h5 1 _ _
    · congr 1
      · show (256 + x1.val) % 256 = 0 + x1.val; omega
      · show 64 * (2 * 0 + (256 + x1.val) / 256) + x2.val = 64 + x2.val; omega
  rcases List.mem_cons.1 hpc with rfl | hpc
  · intro x
    idx_vars x
    obtain rfl : x0 = 0 := Subsingleton.elim _ _
    refine (pay21_apply _ _ _ _ _ _ _ x1 x2).trans ((pay20_catt _ _ _ _ _ _ ⟨x1, by omega⟩ x2 _ _ _
      (logits p 0 _ _ (fun j x => _) (fun q x => (load3 arg1 harg1 X0 (fun r c => p r (2048 + c)) h0 ![0, 0, 0] _ q x).trans (by simp)) (fun q x => (load3 arg1 harg1 X0 (fun r c => p r (2048 + c)) h0 ![0, 0, 64] _ q x).trans (by simp)) (fun j x => (by unfold k0_pay18; pointwise []; exact (load3 arg2 harg2 X1 (fun r c => p r (2304 + c)) h1 ![0, 0, 0] _ j x).trans (by simp))) ⟨x1, by omega⟩)
      (fun j => (load3 arg3 harg3 X2 (fun r c => p r (2432 + c)) h2 ![0, 0, 0] _ j x2).trans (by simp)) ?_).trans ((context_eq p cs sn sk 0 ⟨x1, by omega⟩ x2).trans (Eq.trans ?_ (G_unit p cs sn sk ![0, 0, 0] _ x1 x2).symm)))
    · rw [if_pos (by dsimp only; omega), show sk (2 * 0 + ((⟨x1, by omega⟩ : Fin 512) : ℕ) / 256) = sk 0 by congr 1; dsimp only; omega]
      exact word arg6 harg6 X5 sk h5 0 _ _
    · congr 1
      · show (x1.val) % 256 = 0 + x1.val; omega
      · show 64 * (2 * 0 + (x1.val) / 256) + x2.val = 0 + x2.val; omega
  simp at hpc

end Cert.Proof.SwaKernelValue

end
-- ==== Proof.SwaFinal.lean ====
/- The rotation tables the host computes before the call, and the call's result array after the run. -/
module

public import proofs.«01_k».proof.Proof.SwaIdealBlocks
public import proofs.«01_k».proof.Proof.SwaKernelValue
public import proofs.«01_k».proof.Proof.SwaMath
public import Idealize.ShloMosaic.Lib.Pipeline.ValueKit
public import Idealize.ShloMosaic.Lib.Pipeline.ReadBack
public import Idealize.ShloMosaic.Lib.Claim
public import proofs.«01_k».proof.Proof.Gen.SwaRefIdeal.Read

@[expose] public section
set_option maxRecDepth 16384
noncomputable section
namespace Cert.Proof.SwaFinal
open Cert.SwaIdeal Cert.SwaIdeal.Gen Cert.SwaIdeal.Own Idealize.ShloMosaic Idealize.ShloMosaic.TcCoe Idealize.SL.Sem Idealize.ShloMosaic.StableHlo
variable (m : (ℓ : Loc nD τ sig) → Buf (Elt Ideal) ℓ)

set_option maxHeartbeats 4000000 in
open Cert.SwaRefIdeal.Read in
/-- The cosines, and the sines signed for the turn, as the host lays them out before the call. -/
theorem V39 (c : Dev nD) : V m c main_v39 = (shapeCast S2048x256 (broadcastInDim S1x2048x4x64 ![0, 1, 2, 3] bcast_S1x2048x1x64_S1x2048x4x64_0_1_2_3
   (shapeCast S1x2048x1x64 (concatenate S2048x64 1 [⟨S2048x16, val_main_v30 (F := Ideal)⟩, ⟨S2048x16, val_main_v30 (F := Ideal)⟩, ⟨S2048x16, val_main_v64 (F := Ideal)⟩, ⟨S2048x16, val_main_v64 (F := Ideal)⟩] concatenates_S2048x16_S2048x16_S2048x16_S2048x16_S2048x64_d1) shapeCasts_S2048x64_S1x2048x1x64)) shapeCasts_S1x2048x4x64_S2048x256 : FVec Ideal S2048x256 .f32) := by
  show StableHlo.after _ _ (Proc.devRef .tc main_v39) = _
  simp only [List.flatten_cons, List.flatten_nil, List.append_nil, hostOps0, hostOps0_1, hostOps0_2, hostOps0_3, hostOps0_4, List.cons_append, List.nil_append]
  after_results_simp
  rfl
set_option maxHeartbeats 4000000 in
open Cert.SwaRefIdeal.Read in
theorem V42 (c : Dev nD) : V m c main_v42 = (shapeCast S2048x256 (broadcastInDim S1x2048x4x64 ![0, 1, 2, 3] bcast_S1x2048x1x64_S1x2048x4x64_0_1_2_3
   (shapeCast S1x2048x1x64 (concatenate S2048x64 1 [⟨S2048x16, Host.negf (val_main_v32 (F := Ideal))⟩, ⟨S2048x16, val_main_v32 (F := Ideal)⟩, ⟨S2048x16, Host.negf (val_main_v66 (F := Ideal))⟩, ⟨S2048x16, val_main_v66 (F := Ideal)⟩] concatenates_S2048x16_S2048x16_S2048x16_S2048x16_S2048x64_d1) shapeCasts_S2048x64_S1x2048x1x64)) shapeCasts_S1x2048x4x64_S2048x256 : FVec Ideal S2048x256 .f32) := by
  show StableHlo.after _ _ (Proc.devRef .tc main_v42) = _
  simp only [List.flatten_cons, List.flatten_nil, List.append_nil, hostOps0, hostOps0_1, hostOps0_2, hostOps0_3, hostOps0_4, List.cons_append, List.nil_append]
  after_results_simp
  rfl

/-- The cosine and the sine of head column `d` at latent row `r`: of the row's part of the position for `d < 32`, of the column's after. -/
def cs (r d : ℕ) : EReal :=
  if h : r < 2048 then if d < 32 then Cert.SwaRefIdeal.Read.val_main_v30 (F := Ideal) (ix2 ⟨r, h⟩ ⟨d % 16, by omega⟩)
    else Cert.SwaRefIdeal.Read.val_main_v64 (F := Ideal) (ix2 ⟨r, h⟩ ⟨d % 16, by omega⟩) else 0
def sn (r d : ℕ) : EReal :=
  if h : r < 2048 then if d < 32 then Cert.SwaRefIdeal.Read.val_main_v32 (F := Ideal) (ix2 ⟨r, h⟩ ⟨d % 16, by omega⟩)
    else Cert.SwaRefIdeal.Read.val_main_v66 (F := Ideal) (ix2 ⟨r, h⟩ ⟨d % 16, by omega⟩) else 0

theorem tab39 (c : Dev nD) (r : Fin 2048) (d : Fin 256) : (V m c main_v39 : FVec Ideal S2048x256 .f32) (ix2 r d) = cs r (d % 64) := by
  rw [V39]
  unfold cs
  rw [dif_pos r.isLt]
  generalize Cert.SwaRefIdeal.Read.val_main_v30 (F := Ideal) = a
  generalize Cert.SwaRefIdeal.Read.val_main_v64 (F := Ideal) = b
  pointwise []
  repeat' split
  all_goals first | omega | (congr 2; first | omega | (apply Fin.ext; dsimp only; omega))

theorem tab42 (c : Dev nD) (r : Fin 2048) (d : Fin 256) : (V m c main_v42 : FVec Ideal S2048x256 .f32) (ix2 r d)
    = if (d : ℕ) % 32 < 16 then - sn r (d % 64) else sn r (d % 64) := by
  rw [V42]
  unfold sn
  rw [dif_pos r.isLt]
  generalize Cert.SwaRefIdeal.Read.val_main_v32 (F := Ideal) = a
  generalize Cert.SwaRefIdeal.Read.val_main_v66 (F := Ideal) = b
  pointwise []
  repeat' split
  all_goals first | omega | (congr 3; first | omega | (apply Fin.ext; dsimp only; omega)) | (congr 2; apply Fin.ext; dsimp only; omega)

/-- Row `r`, column `c` of batch entry `b` of the projection. -/
def ent (A : FVec Ideal S16x2304x2688 .bf16) (b : Fin 16) (r c : ℕ) : EReal :=
  if h : r < 2304 ∧ c < 2688 then A (ix3 b ⟨r, h.1⟩ ⟨c, h.2⟩) else 0
def snk (s : FVec Ideal S4 .f32) (h : ℕ) : EReal := if hh : h < 4 then s (ix1 ⟨h, hh⟩) else 0

/-- What the call computes. -/
def out (A : FVec Ideal S16x2304x2688 .bf16) (s : FVec Ideal S4 .f32) : FVec Ideal S16x2304x256 .bf16 :=
  fun i => Cert.Proof.SwaMath.res (ent A (i 0)) cs sn (snk s) (i 1) (i 2)

theorem idx : ∀ t : Fin cfg0.N, win0_0.index t = ![t.val, 0, 8] ∧ win0_1.index t = ![t.val, 0, 18] ∧ win0_2.index t = ![t.val, 0, 19]
    ∧ win0_3.index t = ![0, 0] ∧ win0_4.index t = ![0, 0] ∧ win0_5.index t = ![0] ∧ win0_6.index t = ![t.val, 0, 0] :=
  (by decide +kernel : ∀ t : Fin grid0.N, _)

theorem blk3 (c : Dev nD) (t : Fin cfg0.N) (W : FVec Ideal S2048x256 .f32) (hW : V m c main_v39 = W) (r : Fin 2048) (d : Fin 256) :
    iblk m c 3 t (ix2 r d) = W (ix2 r d) := by
  unfold iblk
  have e : V m c (Pipeline.arrRef spec0 3) = W := hW
  rw [e]
  blk_point [idx t]

theorem blk4 (c : Dev nD) (t : Fin cfg0.N) (W : FVec Ideal S2048x256 .f32) (hW : V m c main_v42 = W) (r : Fin 2048) (d : Fin 256) :
    iblk m c 4 t (ix2 r d) = W (ix2 r d) := by
  unfold iblk
  have e : V m c (Pipeline.arrRef spec0 4) = W := hW
  rw [e]
  blk_point [idx t]

open Cert.Proof.SwaTrips Cert.Proof.SwaKernelValue Cert.SwaIdeal.OwnValue in
theorem final (c : Dev nD) : (dats m 0 c).arrAt 6 cfg0.N = out (m ((c : Thread nD τ).loc main_arg0)) (m ((c : Thread nD τ).loc main_arg1)) := by
  refine (dats m 0 c).arrAt_eq_of_covers 6 _ (by decide +kernel) fun t hf y => ?_
  rw [after0_6]
  unfold outsAt0
  have ht : t.val < 16 := t.isLt
  rw [out_apply c _ _ _ _ _ _ _ _ _ _ _ _ _ _ _ _ _ _ _ (X0_0 m c t) _ _ _ _ _ (ent (m ((c : Thread nD τ).loc main_arg0)) ⟨t.val, ht⟩) cs sn (snk (m ((c : Thread nD τ).loc main_arg1))) ?_ ?_ ?_ ?_ ?_ ?_]
  · idx_vars y
    blk_simp
    show out (m ((c : Thread nD τ).loc main_arg0)) (m ((c : Thread nD τ).loc main_arg1)) (ix3 ⟨t.val, ht⟩ y1 y2) = _
    generalize out (m ((c : Thread nD τ).loc main_arg0)) (m ((c : Thread nD τ).loc main_arg1)) = W
    blk_point [idx t]
  · intro r d
    unfold X0_0 Pipeline.Window.fill; rw [dif_pos (moved0_0 t _)]
    unfold ent; rw [dif_pos ⟨by omega, by omega⟩]
    blk_point [iblk, V_main_arg0, idx t]
  · intro r d
    unfold ent; rw [dif_pos ⟨by omega, by omega⟩]
    blk_point [iblk, V_main_arg0, idx t]
  · intro r d
    unfold ent; rw [dif_pos ⟨by omega, by omega⟩]
    blk_point [iblk, V_main_arg0, idx t]
  · intro r d
    exact (blk3 m c t _ rfl r d).trans (tab39 m c r d)
  · intro r d
    exact (blk4 m c t _ rfl r d).trans (tab42 m c r d)
  · intro h
    unfold snk; rw [dif_pos h.isLt]
    blk_point [iblk, V_main_arg1, idx t]
end Cert.Proof.SwaFinal
end
-- ==== Proof.SwaRefRope.lean ====
/- The reference's windowed attention, stage by stage: the turned queries and keys. -/
module

public import proofs.«01_k».proof.Proof.SwaFinal

@[expose] public section
set_option maxRecDepth 16384
noncomputable section
namespace Cert.Proof.SwaRef
open Cert.SwaRefIdeal Cert.SwaRefIdeal.Gen Cert.SwaRefIdeal.Read Idealize.ShloMosaic Idealize.ShloMosaic.TcCoe Idealize.SL.Sem
open Cert.Proof.SwaMath Cert.Proof.SwaFinal

variable (A : FVec Ideal S16x2304x2688 .bf16)

theorem r40 (b : Fin 16) (r : Fin 2048) (h : Fin 4) (i : Fin 16) :
    val_main_v40 (F := Ideal) A (ix4 b r h i) = ent A b (256 + r) (2048 + (h * 64 + i)) * val_main_v30 (F := Ideal) (ix2 r i) - ent A b (256 + r) (2048 + (h * 64 + (16 + i))) * val_main_v32 (F := Ideal) (ix2 r i) := by
  unfold ent
  rw [dif_pos ⟨by omega, by omega⟩, dif_pos ⟨by omega, by omega⟩]
  pointwise [val_main_v40, val_main_v37, val_main_v34, val_main_v13, val_main_v12, val_main_v6, val_main_v2, val_main_v0, val_main_v36, val_main_v31, val_main_v39, val_main_v35, val_main_v38, val_main_v33]

theorem r45 (b : Fin 16) (r : Fin 2048) (h : Fin 4) (i : Fin 16) :
    val_main_v45 (F := Ideal) A (ix4 b r h i) = ent A b (256 + r) (2048 + (h * 64 + i)) * val_main_v32 (F := Ideal) (ix2 r i) + ent A b (256 + r) (2048 + (h * 64 + (16 + i))) * val_main_v30 (F := Ideal) (ix2 r i) := by
  unfold ent
  rw [dif_pos ⟨by omega, by omega⟩, dif_pos ⟨by omega, by omega⟩]
  pointwise [val_main_v45, val_main_v42, val_main_v34, val_main_v13, val_main_v12, val_main_v6, val_main_v2, val_main_v0, val_main_v41, val_main_v33, val_main_v44, val_main_v35, val_main_v43, val_main_v31]

theorem r74 (b : Fin 16) (r : Fin 2048) (h : Fin 4) (i : Fin 16) :
    val_main_v74 (F := Ideal) A (ix4 b r h i) = ent A b (256 + r) (2048 + (h * 64 + (32 + i))) * val_main_v64 (F := Ideal) (ix2 r i) - ent A b (256 + r) (2048 + (h * 64 + (32 + (16 + i)))) * val_main_v66 (F := Ideal) (ix2 r i) := by
  unfold ent
  rw [dif_pos ⟨by omega, by omega⟩, dif_pos ⟨by omega, by omega⟩]
  pointwise [val_main_v74, val_main_v71, val_main_v68, val_main_v47, val_main_v12, val_main_v6, val_main_v2, val_main_v0, val_main_v70, val_main_v65, val_main_v73, val_main_v69, val_main_v72, val_main_v67]

theorem r79 (b : Fin 16) (r : Fin 2048) (h : Fin 4) (i : Fin 16) :
    val_main_v79 (F := Ideal) A (ix4 b r h i) = ent A b (256 + r) (2048 + (h * 64 + (32 + i))) * val_main_v66 (F := Ideal) (ix2 r i) + ent A b (256 + r) (2048 + (h * 64 + (32 + (16 + i)))) * val_main_v64 (F := Ideal) (ix2 r i) := by
  unfold ent
  rw [dif_pos ⟨by omega, by omega⟩, dif_pos ⟨by omega, by omega⟩]
  pointwise [val_main_v79, val_main_v76, val_main_v68, val_main_v47, val_main_v12, val_main_v6, val_main_v2, val_main_v0, val_main_v75, val_main_v67, val_main_v78, val_main_v69, val_main_v77, val_main_v65]

theorem r111 (b : Fin 16) (r : Fin 2048) (h : Fin 2) (i : Fin 16) :
    val_main_v111 (F := Ideal) A (ix4 b r h i) = ent A b (256 + r) (2304 + (h * 64 + i)) * val_main_v30 (F := Ideal) (ix2 r i) - ent A b (256 + r) (2304 + (h * 64 + (16 + i))) * val_main_v32 (F := Ideal) (ix2 r i) := by
  rw [show val_main_v30 (F := Ideal) = val_main_v101 from rfl, show val_main_v32 (F := Ideal) = val_main_v103 from rfl]
  unfold ent
  rw [dif_pos ⟨by omega, by omega⟩, dif_pos ⟨by omega, by omega⟩]
  pointwise [val_main_v111, val_main_v108, val_main_v105, val_main_v84, val_main_v83, val_main_v7, val_main_v2, val_main_v0, val_main_v107, val_main_v102, val_main_v110, val_main_v106, val_main_v109, val_main_v104]

theorem r116 (b : Fin 16) (r : Fin 2048) (h : Fin 2) (i : Fin 16) :
    val_main_v116 (F := Ideal) A (ix4 b r h i) = ent A b (256 + r) (2304 + (h * 64 + i)) * val_main_v32 (F := Ideal) (ix2 r i) + ent A b (256 + r) (2304 + (h * 64 + (16 + i))) * val_main_v30 (F := Ideal) (ix2 r i) := by
  rw [show val_main_v30 (F := Ideal) = val_main_v101 from rfl, show val_main_v32 (F := Ideal) = val_main_v103 from rfl]
  unfold ent
  rw [dif_pos ⟨by omega, by omega⟩, dif_pos ⟨by omega, by omega⟩]
  pointwise [val_main_v116, val_main_v113, val_main_v105, val_main_v84, val_main_v83, val_main_v7, val_main_v2, val_main_v0, val_main_v112, val_main_v104, val_main_v115, val_main_v106, val_main_v114, val_main_v102]

theorem r145 (b : Fin 16) (r : Fin 2048) (h : Fin 2) (i : Fin 16) :
    val_main_v145 (F := Ideal) A (ix4 b r h i) = ent A b (256 + r) (2304 + (h * 64 + (32 + i))) * val_main_v64 (F := Ideal) (ix2 r i) - ent A b (256 + r) (2304 + (h * 64 + (32 + (16 + i)))) * val_main_v66 (F := Ideal) (ix2 r i) := by
  rw [show val_main_v64 (F := Ideal) = val_main_v135 from rfl, show val_main_v66 (F := Ideal) = val_main_v137 from rfl]
  unfold ent
  rw [dif_pos ⟨by omega, by omega⟩, dif_pos ⟨by omega, by omega⟩]
  pointwise [val_main_v145, val_main_v142, val_main_v139, val_main_v118, val_main_v83, val_main_v7, val_main_v2, val_main_v0, val_main_v141, val_main_v136, val_main_v144, val_main_v140, val_main_v143, val_main_v138]

theorem r150 (b : Fin 16) (r : Fin 2048) (h : Fin 2) (i : Fin 16) :
    val_main_v150 (F := Ideal) A (ix4 b r h i) = ent A b (256 + r) (2304 + (h * 64 + (32 + i))) * val_main_v66 (F := Ideal) (ix2 r i) + ent A b (256 + r) (2304 + (h * 64 + (32 + (16 + i)))) * val_main_v64 (F := Ideal) (ix2 r i) := by
  rw [show val_main_v64 (F := Ideal) = val_main_v135 from rfl, show val_main_v66 (F := Ideal) = val_main_v137 from rfl]
  unfold ent
  rw [dif_pos ⟨by omega, by omega⟩, dif_pos ⟨by omega, by omega⟩]
  pointwise [val_main_v150, val_main_v147, val_main_v139, val_main_v118, val_main_v83, val_main_v7, val_main_v2, val_main_v0, val_main_v146, val_main_v138, val_main_v149, val_main_v140, val_main_v148, val_main_v136]

theorem t81 (b : Fin 16) (r : Fin 2048) (h : Fin 4) (d : Fin 64) :
    val_main_v81 (F := Ideal) A (ix4 b r h d) = qr (ent A b) cs sn r (64 * h + d) := by
  unfold qr rope
  unfold cs sn
  rw [dif_pos r.isLt, dif_pos r.isLt, show (64 * (h : ℕ) + d) % 64 = d by omega, show (64 * (h : ℕ) + d) % 32 = (d : ℕ) % 32 by omega]
  have H0 := r40 A b r h
  have H1 := r45 A b r h
  have H2 := r74 A b r h
  have H3 := r79 A b r h
  unfold val_main_v81 val_main_v46 val_main_v80
  generalize val_main_v40 (F := Ideal) A = q0 at H0 ⊢
  generalize val_main_v45 (F := Ideal) A = q1 at H1 ⊢
  generalize val_main_v74 (F := Ideal) A = q2 at H2 ⊢
  generalize val_main_v79 (F := Ideal) A = q3 at H3 ⊢
  generalize val_main_v30 (F := Ideal) = a0 at H0 H1 ⊢
  generalize val_main_v32 (F := Ideal) = a1 at H0 H1 ⊢
  generalize val_main_v64 (F := Ideal) = a2 at H2 H3 ⊢
  generalize val_main_v66 (F := Ideal) = a3 at H2 H3 ⊢
  generalize ent A b = P at H0 H1 H2 H3 ⊢
  pointwise []
  by_cases h1 : (d : ℕ) < 32
  · simp only [dif_pos h1, if_pos h1]
    by_cases h2 : (d : ℕ) < 16
    · simp only [dif_pos h2, if_pos (show (d : ℕ) % 32 < 16 by omega)]
      refine (H0 _).trans ?_
      dsimp only
      congr 2 <;> first | omega | (congr 1; omega) | (congr 1; congr 1; omega) | (congr 2; exact Fin.ext (by dsimp only; omega))
    · simp only [dif_neg h2, if_neg (show ¬ (d : ℕ) % 32 < 16 by omega)]
      refine (H1 _).trans ?_
      dsimp only
      congr 2 <;> first | omega | (congr 1; omega) | (congr 1; congr 1; omega) | (congr 2; exact Fin.ext (by dsimp only; omega))
  · simp only [dif_neg h1, if_neg h1]
    by_cases h2 : (d : ℕ) - 32 < 16
    · simp only [dif_pos h2, if_pos (show (d : ℕ) % 32 < 16 by omega)]
      refine (H2 _).trans ?_
      dsimp only
      congr 2 <;> first | omega | (congr 1; omega) | (congr 1; congr 1; omega) | (congr 2; exact Fin.ext (by dsimp only; omega))
    · simp only [dif_neg h2, if_neg (show ¬ (d : ℕ) % 32 < 16 by omega)]
      refine (H3 _).trans ?_
      dsimp only
      congr 2 <;> first | omega | (congr 1; omega) | (congr 1; congr 1; omega) | (congr 2; exact Fin.ext (by dsimp only; omega))

theorem t152 (b : Fin 16) (r : Fin 2048) (h : Fin 2) (d : Fin 64) :
    val_main_v152 (F := Ideal) A (ix4 b r h d) = kr (ent A b) cs sn r (64 * h + d) := by
  unfold kr rope
  unfold cs sn
  rw [dif_pos r.isLt, dif_pos r.isLt, show (64 * (h : ℕ) + d) % 64 = d by omega, show (64 * (h : ℕ) + d) % 32 = (d : ℕ) % 32 by omega]
  have H0 := r111 A b r h
  have H1 := r116 A b r h
  have H2 := r145 A b r h
  have H3 := r150 A b r h
  unfold val_main_v152 val_main_v117 val_main_v151
  generalize val_main_v111 (F := Ideal) A = q0 at H0 ⊢
  generalize val_main_v116 (F := Ideal) A = q1 at H1 ⊢
  generalize val_main_v145 (F := Ideal) A = q2 at H2 ⊢
  generalize val_main_v150 (F := Ideal) A = q3 at H3 ⊢
  generalize val_main_v30 (F := Ideal) = a0 at H0 H1 ⊢
  generalize val_main_v32 (F := Ideal) = a1 at H0 H1 ⊢
  generalize val_main_v64 (F := Ideal) = a2 at H2 H3 ⊢
  generalize val_main_v66 (F := Ideal) = a3 at H2 H3 ⊢
  generalize ent A b = P at H0 H1 H2 H3 ⊢
  pointwise []
  by_cases h1 : (d : ℕ) < 32
  · simp only [dif_pos h1, if_pos h1]
    by_cases h2 : (d : ℕ) < 16
    · simp only [dif_pos h2, if_pos (show (d : ℕ) % 32 < 16 by omega)]
      refine (H0 _).trans ?_
      dsimp only
      congr 2 <;> first | omega | (congr 1; omega) | (congr 1; congr 1; omega) | (congr 2; exact Fin.ext (by dsimp only; omega))
    · simp only [dif_neg h2, if_neg (show ¬ (d : ℕ) % 32 < 16 by omega)]
      refine (H1 _).trans ?_
      dsimp only
      congr 2 <;> first | omega | (congr 1; omega) | (congr 1; congr 1; omega) | (congr 2; exact Fin.ext (by dsimp only; omega))
  · simp only [dif_neg h1, if_neg h1]
    by_cases h2 : (d : ℕ) - 32 < 16
    · simp only [dif_pos h2, if_pos (show (d : ℕ) % 32 < 16 by omega)]
      refine (H2 _).trans ?_
      dsimp only
      congr 2 <;> first | omega | (congr 1; omega) | (congr 1; congr 1; omega) | (congr 2; exact Fin.ext (by dsimp only; omega))
    · simp only [dif_neg h2, if_neg (show ¬ (d : ℕ) % 32 < 16 by omega)]
      refine (H3 _).trans ?_
      dsimp only
      congr 2 <;> first | omega | (congr 1; omega) | (congr 1; congr 1; omega) | (congr 2; exact Fin.ext (by dsimp only; omega))

end Cert.Proof.SwaRef
end
-- ==== Proof.SwaRefMath.lean ====
/- The windowed attention as the reference computes it: one softmax over the window's 384 keys, the context's 256 and the
   sink, every term divided before the sums with the values. -/
module

public import proofs.«01_k».proof.Proof.SwaMath

@[expose] public section

noncomputable section

namespace Cert.Proof.SwaMath

open Idealize.ShloMosaic

theorem sum_641 (f : Fin 641 → EReal) : ∑ x : Fin 641, f x
    = ∑ j : Fin 384, f ⟨j, by omega⟩ + ∑ j : Fin 256, f ⟨384 + j, by omega⟩ + f ⟨640, by omega⟩ := by
  rw [Fin.sum_univ_castSucc (n := 640)]
  congr 1
  exact Fin.sum_univ_add (a := 384) (b := 256) (fun x : Fin (384 + 256) => f ⟨x.val, by omega⟩)

theorem sup_641 (f : Fin 641 → EReal) : (Finset.univ : Finset (Fin 641)).sup f
    = max (max ((Finset.univ : Finset (Fin 384)).sup fun j => f ⟨j, by omega⟩)
      ((Finset.univ : Finset (Fin 256)).sup fun j => f ⟨384 + j, by omega⟩)) (f ⟨640, by omega⟩) := by
  apply le_antisymm
  · refine Finset.sup_le fun x _ => ?_
    by_cases h : x.val < 384
    · exact le_max_of_le_left (le_max_of_le_left
        (Finset.le_sup (f := fun j : Fin 384 => f ⟨j, by omega⟩) (Finset.mem_univ ⟨x.val, h⟩)))
    by_cases h' : x.val < 640
    · have e : x = ⟨384 + (x.val - 384), by omega⟩ := Fin.ext (by dsimp only; omega)
      rw [e]
      exact le_max_of_le_left (le_max_of_le_right
        (Finset.le_sup (f := fun j : Fin 256 => f ⟨384 + j, by omega⟩) (Finset.mem_univ ⟨x.val - 384, by omega⟩)))
    · have e : x = ⟨640, by omega⟩ := Fin.ext (by dsimp only; omega)
      rw [e]; exact le_max_right _ _
  · refine max_le (max_le (Finset.sup_le fun j _ => ?_) (Finset.sup_le fun j _ => ?_)) ?_ <;>
      exact Finset.le_sup (f := f) (Finset.mem_univ _)

theorem sum_257 (f : Fin 257 → EReal) : ∑ x : Fin 257, f x
    = ∑ j : Fin 256, f ⟨j, by omega⟩ + f ⟨256, by omega⟩ := Fin.sum_univ_castSucc (n := 256) f

theorem sup_257 (f : Fin 257 → EReal) : (Finset.univ : Finset (Fin 257)).sup f
    = max ((Finset.univ : Finset (Fin 256)).sup fun j => f ⟨j, by omega⟩) (f ⟨256, by omega⟩) := by
  apply le_antisymm
  · refine Finset.sup_le fun x _ => ?_
    by_cases h : x.val < 256
    · exact le_max_of_le_left
        (Finset.le_sup (f := fun j : Fin 256 => f ⟨j, by omega⟩) (Finset.mem_univ ⟨x.val, h⟩))
    · have e : x = ⟨256, by omega⟩ := Fin.ext (by dsimp only; omega)
      rw [e]; exact le_max_right _ _
  · refine max_le (Finset.sup_le fun j _ => ?_) ?_ <;> exact Finset.le_sup (f := f) (Finset.mem_univ _)

theorem max_ninf (x : EReal) : max (Ideal.ofBits .f32 0xFF800000#32) x = x := by
  rw [ninf]; exact max_eq_right bot_le

theorem den_pos (S C : ℕ → EReal) {k M : EReal} (hk : Fin' k) (hM : M ≠ ⊤) : 0 < den S C k M := by
  unfold den
  exact lt_of_lt_of_le (exp_pos hk hM) (le_add_of_nonneg_left
    (add_nonneg (Finset.sum_nonneg fun _ _ => exp_nonneg _) (Finset.sum_nonneg fun _ _ => exp_nonneg _)))

theorem att_ref (S V C W : ℕ → EReal) (k : EReal) (a : ℕ) (g : Fin 641 → EReal) (v : Fin 384 → EReal)
    (w : Fin 256 → EReal)
    (hs : ∀ j : Fin 384, g ⟨j, by omega⟩ = if 128 ≤ a + j ∧ a + j < 2176 then S (a + j - 128) else ⊥)
    (hc : ∀ j : Fin 256, g ⟨384 + j, by omega⟩ = C j) (hk : g ⟨640, by omega⟩ = k)
    (hv : ∀ j : Fin 384, v j = if 128 ≤ a + j ∧ a + j < 2176 then V (a + j - 128) else 0)
    (hw : ∀ j : Fin 256, w j = W j)
    (hf : ∀ i, i < 2048 → (i + 128 < a ∨ a + 384 ≤ i + 128) → S i = ⊥) (hkf : Fin' k) (ht : top S C k ≠ ⊤) (M D : EReal)
    (hM : M = max (Ideal.ofBits .f32 0xFF800000#32) (Finset.fold max (Ideal.ofBits .f32 0xFF800000#32) g Finset.univ))
    (hD : D = 0 + ∑ x : Fin 641, Ideal.exp (g x - M)) :
    ∑ j : Fin 384, v j * Ideal.div (Ideal.exp (g ⟨j, by omega⟩ - M)) D
      + ∑ j : Fin 256, w j * Ideal.div (Ideal.exp (g ⟨384 + j, by omega⟩ - M)) D = att S V C W k := by
  have eM : M = top S C k := by
    rw [hM, max_ninf, fold_sup, sup_641, hk, sup_window a _ S hs hf]
    unfold top
    rw [← sup_range 256 C]
    simp only [hc]
  subst eM
  have eD : D = den S C k (top S C k) := by
    rw [hD, zero_add, sum_641, hk,
      sum_window a (fun j => Ideal.exp (g ⟨j, by omega⟩ - top S C k)) (fun i => Ideal.exp (S i - top S C k))
        (fun j => by
          rw [hs]
          split
          · rfl
          · exact exp_bot_sub _)
        (fun i hi h => by rw [hf i hi h]; exact exp_bot_sub _)]
    unfold den
    rw [← Fin.sum_univ_eq_sum_range (fun j => Ideal.exp (C j - top S C k))]
    simp only [hc]
  have hp : 0 < D := eD ▸ den_pos S C hkf ht
  unfold att
  rw [← eD]
  have e1 : ∑ j : Fin 384, v j * Ideal.div (Ideal.exp (g ⟨j, by omega⟩ - top S C k)) D
      = Ideal.div (∑ i ∈ Finset.range 2048, Ideal.exp (S i - top S C k) * V i) D := by
    rw [← sum_div _ _ _ _ hp]
    refine sum_window a _ (fun i => Ideal.div (Ideal.exp (S i - top S C k)) D * V i) (fun j => ?_) (fun i hi h => ?_)
    · rw [hs, hv]
      split
      · exact mul_comm _ _
      · exact zero_mul _
    · rw [hf i hi h, exp_bot_sub]
      unfold Ideal.div
      rw [if_neg hp.ne', zero_mul, zero_mul]
  have e2 : ∑ j : Fin 256, w j * Ideal.div (Ideal.exp (g ⟨384 + j, by omega⟩ - top S C k)) D
      = Ideal.div (∑ i ∈ Finset.range 256, Ideal.exp (C i - top S C k) * W i) D := by
    rw [← sum_div _ _ _ _ hp, ← Fin.sum_univ_eq_sum_range (fun i => Ideal.div (Ideal.exp (C i - top S C k)) D * W i)]
    refine Finset.sum_congr rfl fun j _ => ?_
    rw [hc, hw, mul_comm]
  rw [e1, e2, div_add hp]

theorem catt_ref (C W : ℕ → EReal) (k : EReal) (g : Fin 257 → EReal) (w : Fin 256 → EReal)
    (hc : ∀ j : Fin 256, g ⟨j, by omega⟩ = C j) (hk : g ⟨256, by omega⟩ = k) (hw : ∀ j : Fin 256, w j = W j)
    (hkf : Fin' k) (ht : max ((Finset.range 256).sup C) k ≠ ⊤) (M D : EReal)
    (hM : M = max (Ideal.ofBits .f32 0xFF800000#32) (Finset.fold max (Ideal.ofBits .f32 0xFF800000#32) g Finset.univ))
    (hD : D = 0 + ∑ x : Fin 257, Ideal.exp (g x - M)) :
    ∑ j : Fin 256, w j * Ideal.div (Ideal.exp (g ⟨j, by omega⟩ - M)) D = catt C W k := by
  have eM : M = max ((Finset.range 256).sup C) k := by
    rw [hM, max_ninf, fold_sup, sup_257, hk, ← sup_range 256 C]
    simp only [hc]
  subst eM
  have eD : D = ∑ i ∈ Finset.range 256, Ideal.exp (C i - max ((Finset.range 256).sup C) k)
      + Ideal.exp (k - max ((Finset.range 256).sup C) k) := by
    rw [hD, zero_add, sum_257, hk, ← Fin.sum_univ_eq_sum_range (fun j => Ideal.exp (C j - max ((Finset.range 256).sup C) k))]
    simp only [hc]
  have hp : 0 < D := eD ▸ lt_of_lt_of_le (exp_pos hkf ht)
    (le_add_of_nonneg_left (Finset.sum_nonneg fun _ _ => exp_nonneg _))
  unfold catt
  rw [← eD, ← sum_div _ _ _ _ hp,
    ← Fin.sum_univ_eq_sum_range (fun i => Ideal.div (Ideal.exp (C i - max ((Finset.range 256).sup C) k)) D * W i)]
  refine Finset.sum_congr rfl fun j _ => ?_
  rw [hc, hw, mul_comm]

/-- A logit as the reference computes it, the eighth after the sum. -/
theorem logit (q k : Fin 64 → EReal) : (∑ x : Fin 64, k x * q x) * e = ∑ x : Fin 64, q x * e * k x := by
  rw [sum_scale _ _ _ (by rw [e_eq]; exact EReal.coe_nonneg.2 (by norm_num)) (by rw [e_eq]; exact EReal.coe_ne_top _)]
  refine Finset.sum_congr rfl fun x _ => ?_
  rw [mul_comm (k x), mul_right_comm]

theorem Fin'.ne_top {x : EReal} (h : Fin' x) : x ≠ ⊤ := by obtain ⟨r, rfl⟩ := h; exact EReal.coe_ne_top r

theorem fin_e : Fin' e := ⟨_, e_eq⟩

/-- A maximum of finitely many numbers below plus infinity is below it. -/
theorem sup_ne_top (n : ℕ) (f : ℕ → EReal) (h : ∀ i, f i ≠ ⊤) : (Finset.range n).sup f ≠ ⊤ :=
  ((Finset.sup_lt_iff bot_lt_top).2 fun i _ => lt_top_iff_ne_top.2 (h i)).ne

theorem fin_rope {cs sn x : ℕ → EReal} (hc : ∀ d, Fin' (cs d)) (hs : ∀ d, Fin' (sn d)) (hx : ∀ c, Fin' (x c)) (c : ℕ) :
    Fin' (rope cs sn x c) := by
  unfold rope
  split
  · exact ((hx _).mul (hc _)).sub ((hx _).mul (hs _))
  · exact ((hx _).mul (hs _)).add ((hx _).mul (hc _))

theorem fin_C' {p : ℕ → ℕ → EReal} (hp : ∀ r c, Fin' (p r c)) (h r j : ℕ) : Fin' (C' p h r j) :=
  Fin'.sum _ _ fun _ _ => ((hp _ _).mul fin_e).mul (hp _ _)

theorem fin_C {p cs sn : ℕ → ℕ → EReal} (hp : ∀ r c, Fin' (p r c)) (hc : ∀ r d, Fin' (cs r d)) (hs : ∀ r d, Fin' (sn r d))
    (h r j : ℕ) : Fin' (C p cs sn h r j) :=
  Fin'.sum _ _ fun _ _ => ((fin_rope (hc _) (hs _) (fun _ => hp _ _) _).mul fin_e).mul (hp _ _)

theorem S_ne_top {p cs sn : ℕ → ℕ → EReal} (hp : ∀ r c, Fin' (p r c)) (hc : ∀ r d, Fin' (cs r d))
    (hs : ∀ r d, Fin' (sn r d)) (h r i : ℕ) : S p cs sn h r i ≠ ⊤ := by
  unfold S
  split
  · exact (Fin'.sum _ _ fun _ _ => ((fin_rope (hc _) (hs _) (fun _ => hp _ _) _).mul fin_e).mul
      (fin_rope (hc _) (hs _) (fun _ => hp _ _) _)).ne_top
  · exact bot_ne_top

theorem top_ne_top {p cs sn : ℕ → ℕ → EReal} (hp : ∀ r c, Fin' (p r c)) (hc : ∀ r d, Fin' (cs r d))
    (hs : ∀ r d, Fin' (sn r d)) (h r : ℕ) {k : EReal} (hk : Fin' k) : top (S p cs sn h r) (C p cs sn h r) k ≠ ⊤ :=
  max_ne_top (max_ne_top (sup_ne_top _ _ fun _ => S_ne_top hp hc hs _ _ _)
    (sup_ne_top _ _ fun _ => (fin_C hp hc hs _ _ _).ne_top)) hk.ne_top

end Cert.Proof.SwaMath

end
-- ==== Proof.SwaRefWord.lean ====
/- The words of the reference's mask: which of a block's 384 keys are rows of the sequence, and which lie near a query. -/
module

public import Idealize.ShloMosaic.Lib.WordCmp

@[expose] public section

namespace Cert.Proof.SwaRef

open Idealize.ShloMosaic Idealize.ShloMosaic.WordCmp

theorem word_key : ∀ (n : Fin 16) (j : Fin 384), IntOp.andi
      (IntOp.cmpi CmpIPredicate.sge
          (IntOp.addi (IntOp.muli (IntOp.subi (BitVec.ofNat 32 n) 1#32) 128#32) (BitVec.ofNat 32 j)) 0#32)
        (IntOp.cmpi CmpIPredicate.slt
          (IntOp.addi (IntOp.muli (IntOp.subi (BitVec.ofNat 32 n) 1#32) 128#32) (BitVec.ofNat 32 j)) 2048#32)
      = BitVec.ofBool (decide (128 ≤ 128 * n.val + j ∧ 128 * n.val + j < 2176)) := by decide +kernel

theorem word_near : ∀ (q : Fin 128) (j : Fin 384), IntOp.cmpi CmpIPredicate.sle
        (IntOp.absi (BitVec.ofNat 32 (q + 128) - BitVec.ofNat 32 j)) 128#32
      = BitVec.ofBool (decide (q.val ≤ j ∧ j.val ≤ q + 256)) := by decide +kernel

theorem word_valid (n : Fin 16) (q : Fin 128) (j : Fin 384) :
    IntOp.andi
      (IntOp.andi
        (IntOp.cmpi CmpIPredicate.sge
          (IntOp.addi (IntOp.muli (IntOp.subi (BitVec.ofNat 32 n) 1#32) 128#32) (BitVec.ofNat 32 j)) 0#32)
        (IntOp.cmpi CmpIPredicate.slt
          (IntOp.addi (IntOp.muli (IntOp.subi (BitVec.ofNat 32 n) 1#32) 128#32) (BitVec.ofNat 32 j)) 2048#32))
      (IntOp.cmpi CmpIPredicate.sle
        (IntOp.absi
          (IntOp.subi (IntOp.addi (IntOp.muli (BitVec.ofNat 32 n) 128#32) (BitVec.ofNat 32 q))
            (IntOp.addi (IntOp.muli (IntOp.subi (BitVec.ofNat 32 n) 1#32) 128#32) (BitVec.ofNat 32 j)))) 128#32)
    = BitVec.ofBool (decide (128 ≤ 128 * n.val + j ∧ 128 * n.val + j < 2176) && decide (q.val ≤ j ∧ j.val ≤ q + 256)) := by
  have h3 : IntOp.subi (IntOp.addi (IntOp.muli (BitVec.ofNat 32 n) 128#32) (BitVec.ofNat 32 q))
            (IntOp.addi (IntOp.muli (IntOp.subi (BitVec.ofNat 32 n) 1#32) 128#32) (BitVec.ofNat 32 j))
      = BitVec.ofNat 32 (q + 128) - BitVec.ofNat 32 j := by
    unfold IntOp.subi IntOp.addi IntOp.muli
    apply BitVec.eq_of_toNat_eq
    simp only [BitVec.toNat_sub, BitVec.toNat_add, BitVec.toNat_mul, BitVec.toNat_ofNat]
    have := n.isLt; have := q.isLt; have := j.isLt
    omega
  rw [word_key, h3, word_near]
  exact andi_ofBool _ _

end Cert.Proof.SwaRef

end
-- ==== Proof.SwaRefBand.lean ====
/- The reference's keys, values and logits: the blocks of 384 rows, the context's and the queries, by head. -/
module

public import proofs.«01_k».proof.Proof.SwaRefRope
public import proofs.«01_k».proof.Proof.SwaRefMath
public import Idealize.ShloMosaic.Lib.ValueIdxRank6
public import proofs.«01_k».proof.Proof.SwaRefWord

@[expose] public section
set_option maxRecDepth 16384
noncomputable section
namespace Cert.Proof.SwaRef
open Cert.SwaRefIdeal Cert.SwaRefIdeal.Gen Cert.SwaRefIdeal.Read Idealize.ShloMosaic Idealize.ShloMosaic.TcCoe Idealize.SL.Sem
open Cert.Proof.SwaMath Cert.Proof.SwaFinal

variable (A : FVec Ideal S16x2304x2688 .bf16)

theorem t82 (b n : Fin 16) (q : Fin 128) (k g : Fin 2) (d : Fin 64) : val_main_v82 (F := Ideal) A (ix6 b n q k g d)
    = qr (ent A b) cs sn (128 * n + q) (64 * (2 * k + g) + d) := by
  rw [← t81 A b ⟨128 * n + q, by omega⟩ ⟨2 * k + g, by omega⟩ d]
  unfold val_main_v82
  generalize val_main_v81 (F := Ideal) A = y
  refine shapeCast_apply y shapeCasts_S16x2048x4x64_S16x16x128x2x2x64 _ (ix4 b ⟨128 * n + q, by omega⟩ ⟨2 * k + g, by omega⟩ d) ?_
  rw [Shape.rowMajor_val_four, Shape.rowMajor_val_six]
  show ((b.val * 2048 + (128 * n + q)) * 4 + (2 * k + g)) * 64 + d.val = ((((b.val * 16 + n) * 128 + q) * 2 + k) * 2 + g) * 64 + d
  omega

theorem sit0 : FloatOps.sitofp (F := Ideal) FTy.f32 0#32 = (0 : EReal) := by
  show (((0#32).toInt : ℝ) : EReal) = 0
  simp

theorem t159 (b : Fin 16) (n : Fin 16) (j : Fin 384) (k : Fin 2) (d : Fin 64) : val_main_v159 (F := Ideal) A (ix5 b n j k d)
    = if 128 ≤ 128 * (n : ℕ) + j ∧ 128 * (n : ℕ) + j < 2176 then kr (ent A b) cs sn (128 * n + j - 128) (64 * k + d) else 0 := by
  have H := t152 A b
  unfold val_main_v159 val_main_v156 val_main_v157 val_main_v158 val_main_v155 val_main_v154
  generalize val_main_v152 (F := Ideal) A = y at H ⊢
  pointwise [val_main_call2_v0, val_main_c_16]
  have H' : ∀ (r m : ℕ) (hr : r < 2048), r = m → y (ix4 b ⟨r, hr⟩ k d) = kr (ent A b) cs sn m (64 * k + d) := by
    rintro r m hr rfl; exact H _ _ _
  repeat' split
  all_goals first
    | exact H' _ _ _ (by omega)
    | exact sit0
    | (exfalso; omega)

theorem t165 (b : Fin 16) (n : Fin 16) (j : Fin 384) (k : Fin 2) (d : Fin 64) : val_main_v165 (F := Ideal) A (ix5 b n j k d)
    = if 128 ≤ 128 * (n : ℕ) + j ∧ 128 * (n : ℕ) + j < 2176 then ent A b (256 + (128 * n + j - 128)) (2432 + (64 * k + d)) else 0 := by
  unfold val_main_v165 val_main_v162 val_main_v163 val_main_v164 val_main_v161 val_main_v160
  have H : ∀ (r m : ℕ) (hr : r < 2048), r = m → val_main_v153 (F := Ideal) A (ix4 b ⟨r, hr⟩ k d) = ent A b (256 + m) (2432 + (64 * k + d)) := by
    rintro r m hr rfl
    pointwise [val_main_v153, val_main_v8, val_main_v2, val_main_v0]
    unfold ent
    rw [dif_pos (by omega)]
    congr 2 <;> (apply Fin.ext; dsimp only; omega)
  generalize val_main_v153 (F := Ideal) A = y at H ⊢
  pointwise [val_main_call3_v0, val_main_c_17]
  repeat' split
  all_goals first
    | exact H _ _ _ (by omega)
    | exact sit0
    | (exfalso; omega)

theorem t202 (n : Fin 16) (q : Fin 128) (j : Fin 384) : val_main_v202 (F := Ideal) (ix3 n q j)
    = BitVec.ofBool (decide (128 ≤ 128 * n.val + j ∧ 128 * n.val + j < 2176) && decide (q.val ≤ j ∧ j.val ≤ q + 256)) := by
  rw [← word_valid]
  pointwise [val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_c_18, val_main_c_19, val_main_c_20, val_main_c_21, val_main_c_22, val_main_c_23]

theorem t203 (b : Fin 16) (j : Fin 256) (k : Fin 2) (d : Fin 64) : val_main_v203 (F := Ideal) A (ix4 b j k d)
    = ent A b j (2304 + (64 * k + d)) := by
  pointwise [val_main_v203, val_main_v4, val_main_v1, val_main_v0]
  unfold ent
  rw [dif_pos (by omega)]
  congr 2
  all_goals first | omega | (apply Fin.ext; dsimp only; omega)

theorem t204 (b : Fin 16) (j : Fin 256) (k : Fin 2) (d : Fin 64) : val_main_v204 (F := Ideal) A (ix4 b j k d)
    = ent A b j (2432 + (64 * k + d)) := by
  pointwise [val_main_v204, val_main_v5, val_main_v1, val_main_v0]
  unfold ent
  rw [dif_pos (by omega)]
  congr 2
  all_goals first | omega | (apply Fin.ext; dsimp only; omega)

theorem t237 (b : Fin 16) (j : Fin 256) (k g : Fin 2) (d : Fin 64) : val_main_v237 (F := Ideal) A (ix5 b j k g d)
    = ent A b j (2048 + (64 * (2 * k + g) + d)) := by
  pointwise [val_main_v237, val_main_v3, val_main_v1, val_main_v0]
  unfold ent
  rw [dif_pos (by omega)]
  congr 2
  all_goals first | omega | (apply Fin.ext; dsimp only; omega)

theorem t209 (b : Fin 16) (k g : Fin 2) (n : Fin 16) (q : Fin 128) (j : Fin 384) : val_main_v209 (F := Ideal) A (ix6 b k g n q j)
    = if 128 ≤ 128 * n.val + j ∧ 128 * n.val + j < 2176
      then S (ent A b) cs sn (2 * k + g) (128 * n + q) (128 * n + j - 128) else ⊥ := by
  rw [val_main_v209_apply, val_main_v208_apply, val_main_v206_apply, val_main_v205_apply, val_main_v207_apply]
  pointwise [val_main_call4_v1, val_main_call4_v2, val_main_call4_v0, val_main_cst_25, val_main_cst_24]
  rw [show (Ideal.ofBits FTy.f32 1040187392#32) = e from rfl]
  have H := logit (fun x => qr (ent A b) cs sn (128 * n + q) (64 * (2 * k + g) + x)) (fun x => val_main_v159 (F := Ideal) A (ix5 b n j k x))
  have H1 : (∑ x : Fin 64, (val_main_v159 (F := Ideal) A (lidx_main_v205 (idx_main_v206 (ix6 b k g n q j)) x) *
            val_main_v82 (F := Ideal) A (ridx_main_v205 (idx_main_v206 (ix6 b k g n q j)) x) : EReal))
      = ∑ x : Fin 64, val_main_v159 (F := Ideal) A (ix5 b n j k x) * qr (ent A b) cs sn (128 * n + q) (64 * (2 * k + g) + x) := by
    refine Finset.sum_congr rfl fun x _ => ?_
    rw [← t82]
    congr 2
    · funext a; match a with | ⟨0, _⟩ => rfl | ⟨1, _⟩ => rfl | ⟨2, _⟩ => rfl | ⟨3, _⟩ => rfl | ⟨4, _⟩ => rfl
    · funext a; match a with | ⟨0, _⟩ => rfl | ⟨1, _⟩ => rfl | ⟨2, _⟩ => rfl | ⟨3, _⟩ => rfl | ⟨4, _⟩ => rfl | ⟨5, _⟩ => rfl
  rw [H1, H, t202]
  by_cases h : 128 ≤ 128 * n.val + j ∧ 128 * n.val + j < 2176
  · rw [if_pos h]
    unfold S
    have hg : (2 * k.val + g) / 2 = k := by omega
    by_cases h' : q.val ≤ j ∧ j.val ≤ q + 256
    · rw [if_pos (by omega), hg, decide_eq_true h, decide_eq_true h']
      show (∑ x : Fin 64, qr (ent A b) cs sn (128 * n + q) (64 * (2 * k + g) + x) * e
        * val_main_v159 (F := Ideal) A (ix5 b n j k x) : EReal) = _
      refine Finset.sum_congr rfl fun x _ => ?_
      rw [t159, if_pos h]
    · rw [if_neg (by omega), decide_eq_true h, decide_eq_false h']
      exact ninf
  · rw [if_neg h, decide_eq_false h]
    exact ninf

theorem t213 (b : Fin 16) (k g : Fin 2) (n : Fin 16) (q : Fin 128) (j : Fin 256) : val_main_v213 (F := Ideal) A (ix6 b k g n q j)
    = C (ent A b) cs sn (2 * k + g) (128 * n + q) j := by
  rw [val_main_v213_apply, val_main_v211_apply, val_main_v210_apply, val_main_v212_apply]
  pointwise [val_main_cst_26]
  rw [show (Ideal.ofBits FTy.f32 1040187392#32) = e from rfl]
  have hg : (2 * k.val + g) / 2 = k := by omega
  unfold C
  rw [hg, ← logit (fun x => qr (ent A b) cs sn (128 * n + q) (64 * (2 * k + g) + x)) (fun x => ent A b j (2304 + (64 * k + x)))]
  congr 1
  refine Finset.sum_congr rfl fun x _ => ?_
  rw [← t82, ← t203]
  congr 2
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl | ⟨4, _⟩ => rfl | ⟨5, _⟩ => rfl

theorem t241 (b : Fin 16) (k g : Fin 2) (r : Fin 256) (j : Fin 256) : val_main_v241 (F := Ideal) A (ix5 b k g r j)
    = C' (ent A b) (2 * k + g) r j := by
  rw [val_main_v241_apply, val_main_v239_apply, val_main_v238_apply, val_main_v240_apply]
  pointwise [val_main_cst_30]
  rw [show (Ideal.ofBits FTy.f32 1040187392#32) = e from rfl]
  have hg : (2 * k.val + g) / 2 = k := by omega
  unfold C'
  rw [hg, ← logit (fun x => ent A b r (2048 + (64 * (2 * k + g) + x))) (fun x => ent A b j (2304 + (64 * k + x)))]
  congr 1
  refine Finset.sum_congr rfl fun x _ => ?_
  rw [← t237, ← t203]
  congr 2
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl | ⟨4, _⟩ => rfl
end Cert.Proof.SwaRef
end
-- ==== Proof.SwaRefLatent.lean ====
/- The reference's result: the softmax over each row's logits and the sums with the values, of the latent rows. -/
module

public import proofs.«01_k».proof.Proof.SwaRefBand
public import proofs.«01_k».proof.Proof.SwaRefMath
public import Idealize.ShloMosaic.Lib.ValueIdxRank6
public import proofs.«01_k».proof.Proof.SwaRefWord

@[expose] public section
set_option maxRecDepth 16384
noncomputable section
namespace Cert.Proof.SwaRef
open Cert.SwaRefIdeal Cert.SwaRefIdeal.Gen Cert.SwaRefIdeal.Read Idealize.ShloMosaic Idealize.ShloMosaic.TcCoe Idealize.SL.Sem
open Cert.Proof.SwaMath Cert.Proof.SwaFinal

variable (A : FVec Ideal S16x2304x2688 .bf16) (s : FVec Ideal S4 .f32)

theorem t216a (b : Fin 16) (k g : Fin 2) (n : Fin 16) (q : Fin 128) (j : Fin 384) :
    val_main_v216 (F := Ideal) A s (ix6 b k g n q ⟨j, by omega⟩) = val_main_v209 (F := Ideal) A (ix6 b k g n q j) := by
  pointwise [val_main_v216]

theorem t216b (b : Fin 16) (k g : Fin 2) (n : Fin 16) (q : Fin 128) (j : Fin 256) :
    val_main_v216 (F := Ideal) A s (ix6 b k g n q ⟨384 + j, by omega⟩) = val_main_v213 (F := Ideal) A (ix6 b k g n q j) := by
  pointwise [val_main_v216]

theorem t216c (b : Fin 16) (k g : Fin 2) (n : Fin 16) (q : Fin 128) :
    val_main_v216 (F := Ideal) A s (ix6 b k g n q ⟨640, by omega⟩) = snk s (2 * k + g) := by
  pointwise [val_main_v216, val_main_v215, val_main_v214]
  unfold snk
  rw [dif_pos (by omega)]
  refine congrArg s (congrArg ix1 (Fin.ext ?_))
  dsimp only
  omega

theorem t219 (b : Fin 16) (k g : Fin 2) (n : Fin 16) (q : Fin 128) :
    val_main_v219 (F := Ideal) A s (ix5 b k g n q) = max (Ideal.ofBits .f32 0xFF800000#32)
      (Finset.fold max (Ideal.ofBits .f32 0xFF800000#32) (fun x : Fin 641 => val_main_v216 (F := Ideal) A s (ix6 b k g n q x)) Finset.univ) := by
  rw [val_main_v219_apply, val_main_v218_apply]
  unfold val_main_v217
  generalize val_main_v216 (F := Ideal) A s = y
  refine congrArg (max (Ideal.ofBits .f32 0xFF800000#32)) ((Host.reduce_eq_fold_single (α := EReal) (s := S16x2x2x16x128x641) (t := S16x2x2x16x128) (u := S_)
    (FloatOps.maximumf (F := Ideal) (φ := .f32)) y (val_main_cst_27 (F := Ideal)) reducesTo_S16x2x2x16x128x641_S16x2x2x16x128_d5 (by decide) h_S_ (ix5 b k g n q)).trans ?_)
  refine congrArg (fun f => Finset.fold max (Ideal.ofBits .f32 0xFF800000#32) f (Finset.univ : Finset (Fin 641))) (funext fun x => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

theorem t223 (b : Fin 16) (k g : Fin 2) (n : Fin 16) (q : Fin 128) (x : Fin 641) :
    val_main_v223 (F := Ideal) A s (ix6 b k g n q x) = Ideal.exp (val_main_v216 (F := Ideal) A s (ix6 b k g n q x)
      - val_main_v219 (F := Ideal) A s (ix5 b k g n q)) := by
  pointwise [val_main_v223, val_main_v222, val_main_v221, val_main_v220]

theorem t224 (b : Fin 16) (k g : Fin 2) (n : Fin 16) (q : Fin 128) :
    val_main_v224 (F := Ideal) A s (ix5 b k g n q) = 0 + ∑ x : Fin 641, Ideal.exp (val_main_v216 (F := Ideal) A s (ix6 b k g n q x)
      - val_main_v219 (F := Ideal) A s (ix5 b k g n q)) := by
  rw [val_main_v224_apply]
  refine congrArg₂ (· + ·) Ideal.ofBits_zero_f32 (Finset.sum_congr rfl fun x _ => ?_)
  rw [← t223]
  refine congrArg (val_main_v223 (F := Ideal) A s) ?_
  funext a; match a with | ⟨0, _⟩ => rfl | ⟨1, _⟩ => rfl | ⟨2, _⟩ => rfl | ⟨3, _⟩ => rfl | ⟨4, _⟩ => rfl | ⟨5, _⟩ => rfl

theorem t227 (b : Fin 16) (k g : Fin 2) (n : Fin 16) (q : Fin 128) (x : Fin 641) :
    val_main_v227 (F := Ideal) A s (ix6 b k g n q x) = Ideal.div (val_main_v223 (F := Ideal) A s (ix6 b k g n q x))
      (val_main_v224 (F := Ideal) A s (ix5 b k g n q)) := by
  pointwise [val_main_v227, val_main_v226, val_main_v225]

theorem t228 (b : Fin 16) (k g : Fin 2) (n : Fin 16) (q : Fin 128) (j : Fin 384) :
    val_main_v228 (F := Ideal) A s (ix6 b k g n q j)
      = Ideal.div (Ideal.exp (val_main_v216 (F := Ideal) A s (ix6 b k g n q ⟨j, by omega⟩)
        - val_main_v219 (F := Ideal) A s (ix5 b k g n q))) (val_main_v224 (F := Ideal) A s (ix5 b k g n q)) := by
  rw [← t223, ← t227, val_main_v228_apply]
  refine congrArg (val_main_v227 (F := Ideal) A s) ?_
  funext a; match a with | ⟨0, _⟩ => rfl | ⟨1, _⟩ => rfl | ⟨2, _⟩ => rfl | ⟨3, _⟩ => rfl | ⟨4, _⟩ => rfl | ⟨5, _⟩ => exact Fin.ext (by simp)

theorem t229 (b : Fin 16) (k g : Fin 2) (n : Fin 16) (q : Fin 128) (j : Fin 256) :
    val_main_v229 (F := Ideal) A s (ix6 b k g n q j)
      = Ideal.div (Ideal.exp (val_main_v216 (F := Ideal) A s (ix6 b k g n q ⟨384 + j, by omega⟩)
        - val_main_v219 (F := Ideal) A s (ix5 b k g n q))) (val_main_v224 (F := Ideal) A s (ix5 b k g n q)) := by
  rw [← t223, ← t227, val_main_v229_apply]
  refine congrArg (val_main_v227 (F := Ideal) A s) ?_
  funext a; match a with | ⟨0, _⟩ => rfl | ⟨1, _⟩ => rfl | ⟨2, _⟩ => rfl | ⟨3, _⟩ => rfl | ⟨4, _⟩ => rfl | ⟨5, _⟩ => exact Fin.ext (by simp)

theorem t236 (hk : ∀ h, Fin' (snk s h)) (b : Fin 16)
    (ht : ∀ h r, top (S (ent A b) cs sn h r) (C (ent A b) cs sn h r) (snk s h) ≠ ⊤) (r : Fin 2048) (c : Fin 256) :
    val_main_v236 (F := Ideal) A s (ix3 b r c) = latent (ent A b) cs sn (snk s) r c := by
  have e : val_main_v236 (F := Ideal) A s (ix3 b r c) = val_main_v235 (F := Ideal) A s
      (ix6 b ⟨r / 128, by omega⟩ ⟨r % 128, by omega⟩ ⟨c / 128, by omega⟩ ⟨c / 64 % 2, by omega⟩ ⟨c % 64, by omega⟩) := by
    unfold val_main_v236
    generalize val_main_v235 (F := Ideal) A s = y
    refine shapeCast_apply y shapeCasts_S16x16x128x2x2x64_S16x2048x256 _ _ ?_
    rw [Shape.rowMajor_val_three, Shape.rowMajor_val_six]
    show ((((b.val * 16 + r.val / 128) * 128 + r.val % 128) * 2 + c.val / 128) * 2 + c.val / 64 % 2) * 64 + c.val % 64
      = (b.val * 2048 + r) * 256 + c
    omega
  rw [e, val_main_v235_apply, val_main_v232_apply, val_main_v231_apply, val_main_v234_apply, val_main_v233_apply]
  unfold latent
  have hc : 2 * (c.val / 128) + c.val / 64 % 2 = c / 64 := by omega
  have hr : 128 * (r.val / 128) + r.val % 128 = r := by omega
  have hcv : c.val / 128 = c / 64 / 2 := by omega
  refine Eq.trans ?_ (att_ref _ _ _ _ _ (128 * (r.val / 128))
    (fun x => val_main_v216 (F := Ideal) A s (ix6 b ⟨c / 128, by omega⟩ ⟨c / 64 % 2, by omega⟩ ⟨r / 128, by omega⟩ ⟨r % 128, by omega⟩ x))
    (fun j => val_main_v165 (F := Ideal) A (ix5 b ⟨r / 128, by omega⟩ j ⟨c / 128, by omega⟩ ⟨c % 64, by omega⟩))
    (fun j => val_main_v204 (F := Ideal) A (ix4 b j ⟨c / 128, by omega⟩ ⟨c % 64, by omega⟩))
    (fun j => ?_) (fun j => ?_) ?_ (fun j => ?_) (fun j => ?_) ?_ (hk _) (ht _ _) _ _
    (t219 A s b ⟨c / 128, by omega⟩ ⟨c / 64 % 2, by omega⟩ ⟨r / 128, by omega⟩ ⟨r % 128, by omega⟩)
    (t224 A s b ⟨c / 128, by omega⟩ ⟨c / 64 % 2, by omega⟩ ⟨r / 128, by omega⟩ ⟨r % 128, by omega⟩))
  · refine congrArg₂ (· + ·) (Finset.sum_congr rfl fun j _ => ?_) (Finset.sum_congr rfl fun j _ => ?_)
    · rw [← t228]
      refine congrArg₂ (· * ·) (congrArg (val_main_v165 (F := Ideal) A) ?_) (congrArg (val_main_v228 (F := Ideal) A s) ?_)
      · funext a; match a with | ⟨0, _⟩ => rfl | ⟨1, _⟩ => rfl | ⟨2, _⟩ => rfl | ⟨3, _⟩ => rfl | ⟨4, _⟩ => rfl
      · funext a; match a with | ⟨0, _⟩ => rfl | ⟨1, _⟩ => rfl | ⟨2, _⟩ => rfl | ⟨3, _⟩ => rfl | ⟨4, _⟩ => rfl | ⟨5, _⟩ => rfl
    · rw [← t229]
      refine congrArg₂ (· * ·) (congrArg (val_main_v204 (F := Ideal) A) ?_) (congrArg (val_main_v229 (F := Ideal) A s) ?_)
      · funext a; match a with | ⟨0, _⟩ => rfl | ⟨1, _⟩ => rfl | ⟨2, _⟩ => rfl | ⟨3, _⟩ => rfl
      · funext a; match a with | ⟨0, _⟩ => rfl | ⟨1, _⟩ => rfl | ⟨2, _⟩ => rfl | ⟨3, _⟩ => rfl | ⟨4, _⟩ => rfl | ⟨5, _⟩ => rfl
  · rw [t216a, t209]
    dsimp only
    rw [hc, hr]
  · rw [t216b, t213]
    dsimp only
    rw [hc, hr]
  · rw [t216c]
    dsimp only
    rw [hc]
  · rw [t165]
    dsimp only
    rw [hcv]
  · rw [t204]
    dsimp only
    rw [hcv]
  · intro i hi h
    unfold S
    rw [if_neg (by omega)]

end Cert.Proof.SwaRef

end
-- ==== Proof.SwaRefContext.lean ====
/- The reference's result: the softmax over each row's logits and the sums with the values, of the context rows. -/
module

public import proofs.«01_k».proof.Proof.SwaRefLatent
public import proofs.«01_k».proof.Proof.SwaRefMath
public import Idealize.ShloMosaic.Lib.ValueIdxRank6
public import proofs.«01_k».proof.Proof.SwaRefWord

@[expose] public section
set_option maxRecDepth 16384
noncomputable section
namespace Cert.Proof.SwaRef
open Cert.SwaRefIdeal Cert.SwaRefIdeal.Gen Cert.SwaRefIdeal.Read Idealize.ShloMosaic Idealize.ShloMosaic.TcCoe Idealize.SL.Sem
open Cert.Proof.SwaMath Cert.Proof.SwaFinal

variable (A : FVec Ideal S16x2304x2688 .bf16) (s : FVec Ideal S4 .f32)

theorem t244a (b : Fin 16) (k g : Fin 2) (r : Fin 256) (j : Fin 256) :
    val_main_v244 (F := Ideal) A s (ix5 b k g r ⟨j, by omega⟩) = val_main_v241 (F := Ideal) A (ix5 b k g r j) := by
  pointwise [val_main_v244]

theorem t244b (b : Fin 16) (k g : Fin 2) (r : Fin 256) :
    val_main_v244 (F := Ideal) A s (ix5 b k g r ⟨256, by omega⟩) = snk s (2 * k + g) := by
  pointwise [val_main_v244, val_main_v243, val_main_v242]
  unfold snk
  rw [dif_pos (by omega)]
  refine congrArg s (congrArg ix1 (Fin.ext ?_))
  dsimp only
  omega

theorem t247 (b : Fin 16) (k g : Fin 2) (r : Fin 256) :
    val_main_v247 (F := Ideal) A s (ix4 b k g r) = max (Ideal.ofBits .f32 0xFF800000#32)
      (Finset.fold max (Ideal.ofBits .f32 0xFF800000#32) (fun x : Fin 257 => val_main_v244 (F := Ideal) A s (ix5 b k g r x)) Finset.univ) := by
  rw [val_main_v247_apply, val_main_v246_apply]
  unfold val_main_v245
  generalize val_main_v244 (F := Ideal) A s = y
  refine congrArg (max (Ideal.ofBits .f32 0xFF800000#32)) ((Host.reduce_eq_fold_single (α := EReal) (s := S16x2x2x256x257) (t := S16x2x2x256) (u := S_)
    (FloatOps.maximumf (F := Ideal) (φ := .f32)) y (val_main_cst_31 (F := Ideal)) reducesTo_S16x2x2x256x257_S16x2x2x256_d4 (by decide) h_S_ (ix4 b k g r)).trans ?_)
  refine congrArg (fun f => Finset.fold max (Ideal.ofBits .f32 0xFF800000#32) f (Finset.univ : Finset (Fin 257))) (funext fun x => ?_)
  exact congrArg y (funext fun a => Fin.ext (by match a with | ⟨0, _⟩ => rfl | ⟨1, _⟩ => rfl | ⟨2, _⟩ => rfl | ⟨3, _⟩ => rfl | ⟨4, _⟩ => rfl))

theorem t251 (b : Fin 16) (k g : Fin 2) (r : Fin 256) (x : Fin 257) :
    val_main_v251 (F := Ideal) A s (ix5 b k g r x) = Ideal.exp (val_main_v244 (F := Ideal) A s (ix5 b k g r x)
      - val_main_v247 (F := Ideal) A s (ix4 b k g r)) := by
  pointwise [val_main_v251, val_main_v250, val_main_v249, val_main_v248]

theorem t252 (b : Fin 16) (k g : Fin 2) (r : Fin 256) :
    val_main_v252 (F := Ideal) A s (ix4 b k g r) = 0 + ∑ x : Fin 257, Ideal.exp (val_main_v244 (F := Ideal) A s (ix5 b k g r x)
      - val_main_v247 (F := Ideal) A s (ix4 b k g r)) := by
  rw [val_main_v252_apply]
  refine congrArg₂ (· + ·) Ideal.ofBits_zero_f32 (Finset.sum_congr rfl fun x _ => ?_)
  rw [← t251]
  refine congrArg (val_main_v251 (F := Ideal) A s) ?_
  funext a; match a with | ⟨0, _⟩ => rfl | ⟨1, _⟩ => rfl | ⟨2, _⟩ => rfl | ⟨3, _⟩ => rfl | ⟨4, _⟩ => rfl

theorem t256 (b : Fin 16) (k g : Fin 2) (r : Fin 256) (j : Fin 256) :
    val_main_v256 (F := Ideal) A s (ix5 b k g r j)
      = Ideal.div (Ideal.exp (val_main_v244 (F := Ideal) A s (ix5 b k g r ⟨j, by omega⟩)
        - val_main_v247 (F := Ideal) A s (ix4 b k g r))) (val_main_v252 (F := Ideal) A s (ix4 b k g r)) := by
  rw [← t251, val_main_v256_apply]
  have e : idx_main_v256 (ix5 b k g r j) = ix5 b k g r ⟨j, by omega⟩ := by
    funext a; match a with | ⟨0, _⟩ => rfl | ⟨1, _⟩ => rfl | ⟨2, _⟩ => rfl | ⟨3, _⟩ => rfl | ⟨4, _⟩ => exact Fin.ext (by simp)
  rw [e]
  pointwise [val_main_v255, val_main_v254, val_main_v253]

theorem t260 (hk : ∀ h, Fin' (snk s h)) (b : Fin 16)
    (ht : ∀ h r, max ((Finset.range 256).sup (C' (ent A b) h r)) (snk s h) ≠ ⊤) (r : Fin 256) (c : Fin 256) :
    val_main_v260 (F := Ideal) A s (ix3 b r c) = context (ent A b) (snk s) r c := by
  have e : val_main_v260 (F := Ideal) A s (ix3 b r c) = val_main_v259 (F := Ideal) A s
      (ix5 b r ⟨c / 128, by omega⟩ ⟨c / 64 % 2, by omega⟩ ⟨c % 64, by omega⟩) := by
    unfold val_main_v260
    generalize val_main_v259 (F := Ideal) A s = y
    refine shapeCast_apply y shapeCasts_S16x256x2x2x64_S16x256x256 _ _ ?_
    rw [Shape.rowMajor_val_three, Shape.rowMajor_val_five]
    show (((b.val * 256 + r.val) * 2 + c.val / 128) * 2 + c.val / 64 % 2) * 64 + c.val % 64 = (b.val * 256 + r) * 256 + c
    omega
  rw [e, val_main_v259_apply, val_main_v258_apply]
  unfold context
  have hc : 2 * (c.val / 128) + c.val / 64 % 2 = c / 64 := by omega
  have hcv : c.val / 128 = c / 64 / 2 := by omega
  refine Eq.trans ?_ (catt_ref _ _ _
    (fun x => val_main_v244 (F := Ideal) A s (ix5 b ⟨c / 128, by omega⟩ ⟨c / 64 % 2, by omega⟩ r x))
    (fun j => val_main_v204 (F := Ideal) A (ix4 b j ⟨c / 128, by omega⟩ ⟨c % 64, by omega⟩))
    (fun j => ?_) ?_ (fun j => ?_) (hk _) (ht _ _) _ _
    (t247 A s b ⟨c / 128, by omega⟩ ⟨c / 64 % 2, by omega⟩ r)
    (t252 A s b ⟨c / 128, by omega⟩ ⟨c / 64 % 2, by omega⟩ r))
  · refine Finset.sum_congr rfl fun j _ => ?_
    rw [← t256]
    refine congrArg₂ (· * ·) (congrArg (val_main_v204 (F := Ideal) A) ?_) (congrArg (val_main_v256 (F := Ideal) A s) ?_)
    · funext a; match a with | ⟨0, _⟩ => rfl | ⟨1, _⟩ => rfl | ⟨2, _⟩ => rfl | ⟨3, _⟩ => rfl
    · funext a; match a with | ⟨0, _⟩ => rfl | ⟨1, _⟩ => rfl | ⟨2, _⟩ => rfl | ⟨3, _⟩ => rfl | ⟨4, _⟩ => rfl
  · rw [t244a, t241]
    dsimp only
    rw [hc]
  · rw [t244b]
    dsimp only
    rw [hc]
  · rw [t204]
    dsimp only
    rw [hcv]

theorem t262 (hk : ∀ h, Fin' (snk s h)) (hp : ∀ b r c, Fin' (ent A b r c)) (hc : ∀ r d, Fin' (cs r d))
    (hs : ∀ r d, Fin' (sn r d)) : val_main_v262 (F := Ideal) A s = out A s := by
  funext i
  obtain ⟨b, r, c, rfl⟩ : ∃ (b : Fin 16) (r : Fin 2304) (c : Fin 256), i = ix3 b r c := ⟨i 0, i 1, i 2, eq_ix3 i⟩
  rw [val_main_v262_apply]
  show val_main_v261 (F := Ideal) A s (ix3 b r c) = res (ent A b) cs sn (snk s) r c
  have h1 := t260 A s hk b (fun h r => max_ne_top (sup_ne_top _ _ fun _ => (fin_C' (hp b) _ _ _).ne_top) (hk h).ne_top)
  have h2 := t236 A s hk b (fun h r => top_ne_top (hp b) hc hs h r (hk h))
  unfold val_main_v261
  generalize val_main_v260 (F := Ideal) A s = y at h1 ⊢
  generalize val_main_v236 (F := Ideal) A s = z at h2 ⊢
  pointwise []
  unfold res
  by_cases h : r.val < 256
  · simp only [dif_pos h, if_pos h]
    exact h1 _ _
  · simp only [dif_neg h, if_neg h]
    exact h2 ⟨r.val - 256, by omega⟩ c

end Cert.Proof.SwaRef

end
-- ==== Proof.SwaRefFinite.lean ====
/- Where the operands are finite the call's every number is a real one: the precondition read, and the rotary angles. -/
module

public import proofs.«01_k».proof.Proof.SwaRefContext
public import proofs.«01_k».proof.Pre_finite
public import Idealize.ShloMosaic.Lib.ReduceAll

@[expose] public section
set_option maxRecDepth 16384
noncomputable section
namespace Cert.Proof.SwaRef
open Cert.SwaRefIdeal Cert.SwaRefIdeal.Gen Cert.SwaRefIdeal.Read Idealize.ShloMosaic Idealize.ShloMosaic.TcCoe Idealize.SL.Sem
open Cert.Proof.SwaMath Cert.Proof.SwaFinal

theorem fin_neg {x : EReal} (hx : Fin' x) : Fin' (-x) := by
  obtain ⟨r, rfl⟩ := hx; exact ⟨-r, rfl⟩
theorem fin_div {x : EReal} (y : ℝ) (hx : Fin' x) (h : y ≠ 0) : Fin' (Ideal.div x y) := by
  obtain ⟨r, rfl⟩ := hx
  refine ⟨r * y⁻¹, ?_⟩
  unfold Ideal.div
  rw [if_neg (by exact_mod_cast h), ← EReal.coe_inv, ← EReal.coe_mul]
theorem fin_pow {x y : EReal} (hx : Fin' x) (hy : Fin' y) : Fin' (Ideal.pow x y) := by
  obtain ⟨r, rfl⟩ := hx; obtain ⟨s, rfl⟩ := hy; exact ⟨Real.rpow r s, rfl⟩
theorem fin_cos {x : EReal} (hx : Fin' x) : Fin' (Ideal.cos x) := by
  obtain ⟨r, rfl⟩ := hx; exact ⟨Real.cos r, rfl⟩
theorem fin_sin {x : EReal} (hx : Fin' x) : Fin' (Ideal.sin x) := by
  obtain ⟨r, rfl⟩ := hx; exact ⟨Real.sin r, rfl⟩
theorem fin_word {w : ℕ} (b : BitVec w) : Fin' (FloatOps.sitofp (F := Ideal) .f32 b) := ⟨(b.toInt : ℝ), rfl⟩

theorem fin_two : Fin' (Ideal.ofBits .f32 0x40000000#32) :=
  ⟨2, by simp [Ideal.ofBits, Ideal.ieee, -EReal.coe_mul]; norm_num⟩
theorem thirtytwo : Ideal.ofBits .f32 0x42000000#32 = ((32 : ℝ) : EReal) := by
  simp [Ideal.ofBits, Ideal.ieee, -EReal.coe_mul]; norm_num
theorem fin_base : Fin' (Ideal.ofBits .f32 0x461C4000#32) :=
  ⟨10000, by simp [Ideal.ofBits, Ideal.ieee, -EReal.coe_mul]; norm_num⟩

theorem fin_angle (r d : BitVec 32) : Fin' (FloatOps.sitofp (F := Ideal) .f32 r *
      Ideal.pow (Ideal.ofBits .f32 0x461C4000#32)
        (Ideal.div (-(Ideal.ofBits .f32 0x40000000#32 * FloatOps.sitofp (F := Ideal) .f32 d)) (Ideal.ofBits .f32 0x42000000#32)) : EReal) := by
  rw [thirtytwo]
  exact (fin_word r).mul (fin_pow fin_base (fin_div 32 (fin_neg (fin_two.mul (fin_word d))) (by norm_num)))

theorem fin_29 (i : S2048x16.Idx) : Fin' (val_main_v29 (F := Ideal) i) := by
  obtain ⟨r, d, rfl⟩ : ∃ (r : Fin 2048) (d : Fin 16), i = ix2 r d := ⟨i 0, i 1, eq_ix2 i⟩
  pointwise [val_main_v29, val_main_v28, val_main_v27, val_main_v26, val_main_v25, val_main_v24, val_main_v23, val_main_v22, val_main_v21, val_main_v20, val_main_v19, val_main_v18, val_main_v17, val_main_v16, val_main_v15, val_main_v14, val_main_cst, val_main_cst_1, val_main_cst_2, val_main_cst_3]
  exact fin_angle _ _

theorem fin_63 (i : S2048x16.Idx) : Fin' (val_main_v63 (F := Ideal) i) := by
  obtain ⟨r, d, rfl⟩ : ∃ (r : Fin 2048) (d : Fin 16), i = ix2 r d := ⟨i 0, i 1, eq_ix2 i⟩
  pointwise [val_main_v63, val_main_v62, val_main_v61, val_main_v60, val_main_v59, val_main_v58, val_main_v57, val_main_v56, val_main_v55, val_main_v54, val_main_v53, val_main_v52, val_main_v51, val_main_v50, val_main_v49, val_main_v48, val_main_cst_4, val_main_cst_5, val_main_cst_6, val_main_cst_7]
  exact fin_angle _ _

theorem fin_zero : Fin' 0 := ⟨0, rfl⟩

theorem fin_cs (r d : ℕ) : Fin' (cs r d) := by
  unfold cs
  split
  · split
    · exact fin_cos (fin_29 _)
    · exact fin_cos (fin_63 _)
  · exact fin_zero

theorem fin_sn (r d : ℕ) : Fin' (sn r d) := by
  unfold sn
  split
  · split
    · exact fin_sin (fin_29 _)
    · exact fin_sin (fin_63 _)
  · exact fin_zero

theorem fin_of_lt {x : EReal} (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  have h' : max x (-x) < ⊤ := by
    by_contra hc
    have e : Ideal.cmp .olt (max x (-x)) ⊤ = BitVec.ofBool (decide (max x (-x) < ⊤)) := rfl
    rw [e, decide_eq_false hc] at h
    exact absurd h (by decide)
  induction x with
  | bot => exact absurd h' (by simp)
  | top => exact absurd h' (by simp)
  | coe r => exact ⟨r, rfl⟩

theorem read (A : FVec Ideal S16x2304x2688 .bf16) (s : FVec Ideal S4 .f32) [Cert.Pre_finite.Facts]
    (h : Cert.Pre_finite.fn (F := Ideal) A s = fun _ => 1#1) : (∀ i, Fin' (A i)) ∧ ∀ i, Fin' (s i) := by
  have h' := congrFun h ix0
  have : Subsingleton (Cert.Pre_finite.S_).Idx := ⟨fun a b => funext fun x => x.elim0⟩
  unfold Cert.Pre_finite.fn at h'
  obtain ⟨h1, h2⟩ := IntOp.andi_eq_one.1 h'
  refine ⟨fun i => ?_, fun i => ?_⟩
  · exact fin_of_lt (Host.reduce_andi_all _ _ _ _ _ h1 i)
  · exact fin_of_lt (Host.reduce_andi_all _ _ _ _ _ h2 i)

/-- What the reference computes of finite operands is what the kernel does. -/
theorem ref_eq (A : FVec Ideal S16x2304x2688 .bf16) (s : FVec Ideal S4 .f32) [Cert.Pre_finite.Facts]
    (h : Cert.Pre_finite.fn (F := Ideal) A s = fun _ => 1#1) : out A s = val_main_v262 (F := Ideal) A s := by
  obtain ⟨hA, hs⟩ := read A s h
  refine (t262 A s (fun h => ?_) (fun b r c => ?_) fin_cs fin_sn).symm
  · unfold snk
    split
    · exact hs _
    · exact fin_zero
  · unfold ent
    split
    · exact hA _
    · exact fin_zero

end Cert.Proof.SwaRef

end
-- ==== Proof.SwaClaim.lean ====
/- The sliding-window attention: at finite operands kernel and reference end with equal results. -/
module

public import proofs.«01_k».proof.Defs
public import proofs.«01_k».proof.Proof.SwaFrames
public import proofs.«01_k».proof.Proof.SwaIdealBlocks
public import proofs.«01_k».proof.Proof.SwaFinal
public import proofs.«01_k».proof.Proof.SwaRefFinite

@[expose] public section

noncomputable section

namespace Cert.Proof

open Idealize.ShloMosaic Idealize.SL.Sem

/-- The side conditions of the precondition's operations. -/
theorem pre_facts : Cert.Pre_finite.Facts where
  bitsLt_bf16_f32 := by decide
  bcast_S_S16x2304x2688 := by decide
  reducesTo_S16x2304x2688_S_d0_1_2 := by decide
  h_S_ := by decide
  bcast_S_S4 := by decide
  reducesTo_S4_S_d0 := by decide

/-- The kernel's frame at finite operands. -/
theorem frame_SwaIdeal_finite [Cert.Pre_finite.Facts] : Cert.quiescent_SwaIdeal_pre_finite :=
  fun m ρ _ => Cert.SwaIdeal.Own.frame m ρ
/-- The reference's frame at finite operands. -/
theorem frame_SwaRefIdeal_finite [Cert.Pre_finite.Facts] : Cert.quiescent_SwaRefIdeal_pre_finite :=
  fun m ρ _ => frame_SwaRefIdeal m ρ trivial

/-- At finite operands kernel and reference end with equal results. -/
theorem algebraic_Swa [Cert.Pre_finite.Facts] : Cert.algebraic_SwaIdeal_SwaRefIdeal_pre_finite := by
  pair_intro
  · run_from Cert.SwaIdeal.OwnValue.run_blocks m g
  · run_from Cert.SwaRefIdeal.Value.run m' g'
    obtain ⟨h0, h1⟩ := hagree c
    rw [SwaFinal.final, Cert.SwaRefIdeal.Read.val_main_v262_eq]
    exact (congrArg₂ (Cert.SwaRefIdeal.Read.val_main_v262 (F := Ideal)) h0 h1).trans (SwaRef.ref_eq _ _ (hpre c)).symm

end Cert.Proof

end
-- ==== Proof.lean ====
module

public import proofs.«01_k».proof.Proof.Frames
public import proofs.«01_k».proof.Proof.Claims
public import proofs.«01_k».proof.Proof.SwaFrames
public import proofs.«01_k».proof.Proof.SwaClaim

@[expose] public section

noncomputable section

namespace Cert.Proof

open Idealize.ShloMosaic Idealize.SL.Sem

/-- Every claim of the statement. -/
theorem claim : Cert.Claim := ⟨Cert.Swa.Gen.facts, Cert.SwaIdeal.Gen.facts, Cert.SwaRefIdeal.Gen.facts, Cert.Up.Gen.facts, Cert.UpIdeal.Gen.facts, Cert.UpRefIdeal.Gen.facts, Cert.In.Gen.facts, Cert.InIdeal.Gen.facts, Cert.InRefIdeal.Gen.facts, Cert.Down.Gen.facts, Cert.DownIdeal.Gen.facts, Cert.DownRefIdeal.Gen.facts, Cert.Out.Gen.facts, Cert.OutIdeal.Gen.facts, Cert.OutRefIdeal.Gen.facts, Cert.Mod.Gen.facts, Cert.ModIdeal.Gen.facts, Cert.ModRefIdeal.Gen.facts, pre_facts, by
  have := pre_facts
  exact ⟨frame_Swa, frame_SwaIdeal, frame_SwaIdeal_finite, frame_SwaRefIdeal, frame_SwaRefIdeal_finite, frame_Up, frame_UpIdeal, frame_UpRefIdeal, frame_In, frame_InIdeal, frame_InRefIdeal, frame_Down, frame_DownIdeal, frame_DownRefIdeal, frame_Out, frame_OutIdeal, frame_OutRefIdeal, frame_Mod, frame_ModIdeal, frame_ModRefIdeal,
    preserves_swa, algebraic_Swa, trivial, algebraic_Up, trivial, algebraic_In, trivial, algebraic_Down, trivial, algebraic_Out, trivial, algebraic_Mod⟩⟩

end Cert.Proof

end
